-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 5]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2) i = v0 c i)
          ∧ (∀ i : (⟨2, ![1024, 5]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v4) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 5]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_values) i = v0 c i)
          ∧ (∀ i : (⟨2, ![1024, 5]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S1024x512 : Shape := ⟨2, ![1024, 512]⟩
abbrev S100000x512 : Shape := ⟨2, ![100000, 512]⟩
abbrev S_ : Shape := ⟨0, ![]⟩
abbrev S1024 : Shape := ⟨1, ![1024]⟩
abbrev S1024x1 : Shape := ⟨2, ![1024, 1]⟩
abbrev S512x100000 : Shape := ⟨2, ![512, 100000]⟩
abbrev S1024x100000 : Shape := ⟨2, ![1024, 100000]⟩
abbrev S1024x6 : Shape := ⟨2, ![1024, 6]⟩
abbrev S1024x5 : Shape := ⟨2, ![1024, 5]⟩
abbrev S1024x4 : Shape := ⟨2, ![1024, 4]⟩

class Facts : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  transposes_S100000x512_S512x100000_1_0 : S100000x512.Transposes [1, 0] S512x100000
  sliceFits_S1024x100000_S1024x6 : S1024x100000.Slices (fun _ => 0) S1024x6
  slices_S1024x6_S1024x5_0_0 : S1024x6.Slices ![0, 0] S1024x5
  slices_S1024x6_S1024x5_0_1 : S1024x6.Slices ![0, 1] S1024x5
  bcast_S_S1024x1 : S_.BroadcastsInDim S1024x1 (![] : Fin 0 → Fin S1024x1.rank)
  slices_S1024x5_S1024x4_0_0 : S1024x5.Slices ![0, 0] S1024x4
  concatenates_S1024x1_S1024x4_S1024x5_d1 : Shape.Concatenates [S1024x1, S1024x4] S1024x5 1
  bcast_S_S1024x5 : S_.BroadcastsInDim S1024x5 (![] : Fin 0 → Fin S1024x5.rank)
  dot_S1024x512_S512x100000_S1024x100000_1_0_0_1_n_n_wf : DotDims.WF S1024x512 S512x100000 S1024x100000 [1] [0] [0] [1] [] []

variable [Facts]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf
def fn_norm {F : FTy → Type} [FloatOps F] (arg0 : FVec F S1024x512 .f32) : FVec F S1024x1 .f32 :=
  let v0 : FVec F S1024x512 .f32 := mulf arg0 arg0
  let cst : FVec F S_ .f32 := constant S_ .f32 0x00000000#32
  let v1 : FVec F S1024 .f32 := (fun x v => Host.reduceAdd x v reducesTo_S1024x512_S1024_d1 h_S_) v0 cst
  let v2 : FVec F S1024x1 .f32 := broadcastInDim S1024x1 ![0] bcast_S1024_S1024x1_0 v1
  let v3 : FVec F S1024x1 .f32 := Host.sqrt v2
  v3

def fn {F : FTy → Type} [FloatOps F] (main_arg0 : FVec F S1024x512 .f32) (main_arg1 : FVec F S100000x512 .f32) : IVec S1024x5 1 × IVec S1024x5 1 :=
  let main_v0 : FVec F S1024x1 .f32 := fn_norm (F := F) main_arg0
  let main_v1 : FVec F S1024x512 .f32 := broadcastInDim S1024x512 ![0, 1] bcast_S1024x1_S1024x512_0_1 main_v0
  let main_v2 : FVec F S1024x512 .f32 := Host.divf main_arg0 main_v1
  let main_v3 : FVec F S512x100000 .f32 := (transpose S512x100000 [1, 0] · transposes_S100000x512_S512x100000_1_0) main_arg1
  let main_v4 : FVec F S1024x100000 .f32 := (fun l r => Host.dotGeneral dot_S1024x512_S512x100000_S1024x100000_1_0_0_1_n_n none l r) main_v2 main_v3
  let main_values : FVec F S1024x6 .f32 := (fun x => (Host.topK S1024x6 1 (FloatOps.cmpfTotal .gt) x sliceFits_S1024x100000_S1024x6).1) main_v4
  let main_indices : IVec S1024x6 32 := (fun x => (Host.topK S1024x6 1 (FloatOps.cmpfTotal .gt) x sliceFits_S1024x100000_S1024x6).2) main_v4
  let main_v5 : FVec F S1024x5 .f32 := (extractStridedSlice S1024x5 ![0, 0] · slices_S1024x6_S1024x5_0_0) main_values
  let main_v6 : FVec F S1024x5 .f32 := (extractStridedSlice S1024x5 ![0, 1] · slices_S1024x6_S1024x5_0_1) main_values
  let main_v7 : IVec S1024x5 1 := cmpf .ogt main_v5 main_v6
  let main_c : IVec S_ 1 := constantI S_ 1 1#1
  let main_v8 : IVec S1024x1 1 := broadcastInDim S1024x1 ![] bcast_S_S1024x1 main_c
  let main_v9 : IVec S1024x4 1 := (extractStridedSlice S1024x4 ![0, 0] · slices_S1024x5_S1024x4_0_0) main_v7
  let main_v10 : IVec S1024x5 1 := (fun a b => concatenate S1024x5 1 [⟨S1024x1, a⟩, ⟨S1024x4, b⟩] concatenates_S1024x1_S1024x4_S1024x5_d1) main_v8 main_v9
  let main_c_0 : IVec S_ 1 := constantI S_ 1 1#1
  let main_v11 : IVec S1024x5 1 := broadcastInDim S1024x5 ![] bcast_S_S1024x5 main_c_0
  let main_v12 : IVec S1024x5 1 := andi main_v7 main_v10
  (main_v11, main_v12)
-- ==== Kernel.lean ====
abbrev S1024x512 : Shape := ⟨2, ![1024, 512]⟩
abbrev S100000x512 : Shape := ⟨2, ![100000, 512]⟩
abbrev S8x1024 : Shape := ⟨2, ![8, 1024]⟩
abbrev S4000x512 : Shape := ⟨2, ![4000, 512]⟩
abbrev S4000x1024 : Shape := ⟨2, ![4000, 1024]⟩
abbrev S1024 : Shape := ⟨1, ![1024]⟩
abbrev S1024x1 : Shape := ⟨2, ![1024, 1]⟩
abbrev S8x128 : Shape := ⟨2, ![8, 128]⟩
abbrev S48x128 : Shape := ⟨2, ![48, 128]⟩
abbrev S128 : Shape := ⟨1, ![128]⟩
abbrev S1x128 : Shape := ⟨2, ![1, 128]⟩
abbrev S5x1024 : Shape := ⟨2, ![5, 1024]⟩
abbrev S1024x5 : Shape := ⟨2, ![1024, 5]⟩

abbrev nBuf : Space → Nat
  | .hbm => 8
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S8x1024, .f32⟩
  | .hbm, ⟨3, _⟩ => ⟨S8x1024, .i32⟩
  | .hbm, ⟨4, _⟩ => ⟨S5x1024, .f32⟩
  | .hbm, ⟨5, _⟩ => ⟨S1024x5, .f32⟩
  | .hbm, ⟨6, _⟩ => ⟨S5x1024, .i32⟩
  | .hbm, ⟨7, _⟩ => ⟨S1024x5, .i32⟩
  | .local _ .vmem, ⟨0, _⟩ => ⟨S1024x512, .f32⟩
  | .local _ .vmem, ⟨1, _⟩ => ⟨S4000x512, .f32⟩
  | .local _ .vmem, ⟨2, _⟩ => ⟨S4000x512, .f32⟩
  | .local _ .vmem, ⟨3, _⟩ => ⟨S8x1024, .f32⟩
  | .local _ .vmem, ⟨4, _⟩ => ⟨S8x1024, .i32⟩
  | .local _ .vmem, ⟨5, _⟩ => ⟨S4000x1024, .f32⟩
  | .local _ .vmem, ⟨6, _⟩ => ⟨S8x1024, .f32⟩
  | .local _ .vmem, ⟨7, _⟩ => ⟨S8x1024, .i32⟩
  | .local _ .vmem, ⟨8, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32_16 : BitVec 32 := 0#32
  let c5_i32 : BitVec 32 := 5#32
  let v21 : BitVec 32 := Scalar.addi c0_i32_16 c5_i32
  let c1_i32 : BitVec 32 := 1#32
  ⟨c0_i32_16, v21, c1_i32⟩
def k0_off1 (k0_t1 : Fin k0_t1_loop.trips) (c0_i32_325 : BitVec 32) : Fin 2 → Nat :=
  let c0_i32_16 : BitVec 32 := 0#32
  let c1_i32 : BitVec 32 := 1#32
  let arg9 : BitVec 32 := Scf.iv c0_i32_16 c1_i32 k0_t1
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c0_326 : Index := 0#32
  ![v657.toNat, 0]
@[reducible] def k0_t2_loop : Scf.Loop 32 :=
  let c0_i32_54 : BitVec 32 := 0#32
  let c5_i32_55 : BitVec 32 := 5#32
  let v101 : BitVec 32 := Scalar.addi c0_i32_54 c5_i32_55
  let c1_i32_56 : BitVec 32 := 1#32
  ⟨c0_i32_54, v101, c1_i32_56⟩
def k0_off2 (k0_t2 : Fin k0_t2_loop.trips) (c0_i32_325 : BitVec 32) : Fin 2 → Nat :=
  let c0_i32_54 : BitVec 32 := 0#32
  let c1_i32_56 : BitVec 32 := 1#32
  let arg9 : BitVec 32 := Scf.iv c0_i32_54 c1_i32_56 k0_t2
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c128_326 : Index := 128#32
  ![v657.toNat, 128]
@[reducible] def k0_t3_loop : Scf.Loop 32 :=
  let c0_i32_94 : BitVec 32 := 0#32
  let c5_i32_95 : BitVec 32 := 5#32
  let v181 : BitVec 32 := Scalar.addi c0_i32_94 c5_i32_95
  let c1_i32_96 : BitVec 32 := 1#32
  ⟨c0_i32_94, v181, c1_i32_96⟩
def k0_off3 (k0_t3 : Fin k0_t3_loop.trips) (c0_i32_325 : BitVec 32) : Fin 2 → Nat :=
  let c0_i32_94 : BitVec 32 := 0#32
  let c1_i32_96 : BitVec 32 := 1#32
  let arg9 : BitVec 32 := Scf.iv c0_i32_94 c1_i32_96 k0_t3
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c256_326 : Index := 256#32
  ![v657.toNat, 256]
@[reducible] def k0_t4_loop : Scf.Loop 32 :=
  let c0_i32_134 : BitVec 32 := 0#32
  let c5_i32_135 : BitVec 32 := 5#32
  let v261 : BitVec 32 := Scalar.addi c0_i32_134 c5_i32_135
  let c1_i32_136 : BitVec 32 := 1#32
  ⟨c0_i32_134, v261, c1_i32_136⟩
def k0_off4 (k0_t4 : Fin k0_t4_loop.trips) (c0_i32_325 : BitVec 32) : Fin 2 → Nat :=
  let c0_i32_134 : BitVec 32 := 0#32
  let c1_i32_136 : BitVec 32 := 1#32
  let arg9 : BitVec 32 := Scf.iv c0_i32_134 c1_i32_136 k0_t4
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c384_326 : Index := 384#32
  ![v657.toNat, 384]
@[reducible] def k0_t5_loop : Scf.Loop 32 :=
  let c0_i32_174 : BitVec 32 := 0#32
  let c5_i32_175 : BitVec 32 := 5#32
  let v341 : BitVec 32 := Scalar.addi c0_i32_174 c5_i32_175
  let c1_i32_176 : BitVec 32 := 1#32
  ⟨c0_i32_174, v341, c1_i32_176⟩
def k0_off5 (k0_t5 : Fin k0_t5_loop.trips) (c0_i32_325 : BitVec 32) : Fin 2 → Nat :=
  let c0_i32_174 : BitVec 32 := 0#32
  let c1_i32_176 : BitVec 32 := 1#32
  let arg9 : BitVec 32 := Scf.iv c0_i32_174 c1_i32_176 k0_t5
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c512_326 : Index := 512#32
  ![v657.toNat, 512]
@[reducible] def k0_t6_loop : Scf.Loop 32 :=
  let c0_i32_214 : BitVec 32 := 0#32
  let c5_i32_215 : BitVec 32 := 5#32
  let v421 : BitVec 32 := Scalar.addi c0_i32_214 c5_i32_215
  let c1_i32_216 : BitVec 32 := 1#32
  ⟨c0_i32_214, v421, c1_i32_216⟩
def k0_off6 (k0_t6 : Fin k0_t6_loop.trips) (c0_i32_325 : BitVec 32) : Fin 2 → Nat :=
  let c0_i32_214 : BitVec 32 := 0#32
  let c1_i32_216 : BitVec 32 := 1#32
  let arg9 : BitVec 32 := Scf.iv c0_i32_214 c1_i32_216 k0_t6
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c640_326 : Index := 640#32
  ![v657.toNat, 640]
@[reducible] def k0_t7_loop : Scf.Loop 32 :=
  let c0_i32_254 : BitVec 32 := 0#32
  let c5_i32_255 : BitVec 32 := 5#32
  let v501 : BitVec 32 := Scalar.addi c0_i32_254 c5_i32_255
  let c1_i32_256 : BitVec 32 := 1#32
  ⟨c0_i32_254, v501, c1_i32_256⟩
def k0_off7 (k0_t7 : Fin k0_t7_loop.trips) (c0_i32_325 : BitVec 32) : Fin 2 → Nat :=
  let c0_i32_254 : BitVec 32 := 0#32
  let c1_i32_256 : BitVec 32 := 1#32
  let arg9 : BitVec 32 := Scf.iv c0_i32_254 c1_i32_256 k0_t7
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c768_326 : Index := 768#32
  ![v657.toNat, 768]
@[reducible] def k0_t8_loop : Scf.Loop 32 :=
  let c0_i32_294 : BitVec 32 := 0#32
  let c5_i32_295 : BitVec 32 := 5#32
  let v581 : BitVec 32 := Scalar.addi c0_i32_294 c5_i32_295
  let c1_i32_296 : BitVec 32 := 1#32
  ⟨c0_i32_294, v581, c1_i32_296⟩
def k0_off8 (k0_t8 : Fin k0_t8_loop.trips) (c0_i32_325 : BitVec 32) : Fin 2 → Nat :=
  let c0_i32_294 : BitVec 32 := 0#32
  let c1_i32_296 : BitVec 32 := 1#32
  let arg9 : BitVec 32 := Scf.iv c0_i32_294 c1_i32_296 k0_t8
  let c100_i32 : BitVec 32 := 100#32
  let v654 : BitVec 32 := Scalar.muli arg9 c100_i32
  let v655 : BitVec 32 := Scalar.addi v654 c0_i32_325
  let c8_i32 : BitVec 32 := 8#32
  let v656 : BitVec 32 := Scalar.muli v655 c8_i32
  let v657 : Index := Scalar.indexCast v656
  let c896_326 : Index := 896#32
  ![v657.toNat, 896]
def k0_cond2 (i : grid0.Coords) : BitVec 1 :=
  let arg0 : BitVec 32 := BitVec.ofNat 32 (i 0).val
  let c24_i32 : BitVec 32 := 24#32
  let v651 : BitVec 1 := Scalar.cmpi .eq arg0 c24_i32
  let v652 : BitVec 32 := Scalar.extui v651
  let c0_i32_324 : BitVec 32 := 0#32
  let v653 : BitVec 1 := Scalar.cmpi .ne v652 c0_i32_324
  v653

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x512 : Shape := ⟨2, ![1024, 512]⟩
abbrev S100000x512 : Shape := ⟨2, ![100000, 512]⟩
abbrev S_ : Shape := ⟨0, ![]⟩
abbrev S1024 : Shape := ⟨1, ![1024]⟩
abbrev S1024x1 : Shape := ⟨2, ![1024, 1]⟩
abbrev S512x100000 : Shape := ⟨2, ![512, 100000]⟩
abbrev S1024x100000 : Shape := ⟨2, ![1024, 100000]⟩
abbrev S1024x5 : Shape := ⟨2, ![1024, 5]⟩

abbrev nBuf : Space → Nat
  | .hbm => 13
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024x512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S1024x512, .f32⟩
  | .hbm, ⟨8, _⟩ => ⟨S1024x512, .f32⟩
  | .hbm, ⟨9, _⟩ => ⟨S512x100000, .f32⟩
  | .hbm, ⟨10, _⟩ => ⟨S1024x100000, .f32⟩
  | .hbm, ⟨11, _⟩ => ⟨S1024x5, .f32⟩
  | .hbm, ⟨12, _⟩ => ⟨S1024x5, .i32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_values : Ref sig .tc := ⟨.hbm, 11, rfl⟩
abbrev main_indices : Ref sig .tc := ⟨.hbm, 12, rfl⟩

abbrev nD : Nat := 1
abbrev τ : Topo := Topo.v7x

variable {F : FTy → Type} [FloatOps F]
-- ==== Proof.TopFive.lean ====
module

public import Idealize.ShloMosaic.Lib.SortFacts
public import Mathlib.Data.EReal.Basic

/-! The five greatest scores of a set of rows, as a program may keep them: five entries (score, row) in no order, filled
up with entries of score `⊥`. Streams of rows, merging several such lists by repeated maximum, and the comparison with a
stable descending sort. -/

@[expose] public section

noncomputable section

namespace Cert.TopFive

open Idealize.ShloMosaic

/-- A score with the number of the row it belongs to, a 32-bit word. -/
abbrev Entry := EReal × BitVec 32

/-- The word no row number equals: the greatest signed word. -/
abbrev big : BitVec 32 := 2147483647#32

variable {N : ℕ}

/-- The entry of row `i`. -/
def ent (s : Fin N → EReal) (i : Fin N) : Entry := (s i, BitVec.ofNat 32 i.val)

theorem ent_inj (hN : N ≤ 2 ^ 31 - 1) (s : Fin N → EReal) {i j : Fin N} (h : ent s i = ent s j) : i = j := by
  have h2 := congrArg (fun e : Entry => e.2.toNat) h
  simp only [ent, BitVec.toNat_ofNat] at h2
  have hi := i.isLt
  have hj := j.isLt
  rw [Nat.mod_eq_of_lt (by omega), Nat.mod_eq_of_lt (by omega)] at h2
  exact Fin.ext h2

theorem ent_ne_big (hN : N ≤ 2 ^ 31 - 1) (s : Fin N → EReal) (i : Fin N) : (ent s i).2 ≠ big := by
  intro h
  have h2 := congrArg BitVec.toNat h
  have hi := i.isLt
  simp only [ent, BitVec.toNat_ofNat] at h2
  rw [Nat.mod_eq_of_lt (by omega)] at h2
  simp at h2
  omega

/-- The five entries `l` stand for the rows `P`: an entry of score above `⊥` is a row's, no two of them are the same
    row's, and a row that is missing scores no more than any of the five. -/
structure Digest (s : Fin N → EReal) (P : Set (Fin N)) (l : Fin 5 → Entry) : Prop where
  sound : ∀ j, ⊥ < (l j).1 → ∃ i ∈ P, l j = ent s i
  inj : ∀ j k, ⊥ < (l j).1 → l j = l k → j = k
  full : ∀ i ∈ P, ⊥ < s i → (∃ j, l j = ent s i) ∨ ∀ j, s i ≤ (l j).1
  small : ∀ j, (l j).2 ≠ big

/-- Five fillers stand for no rows. -/
theorem Digest.empty (s : Fin N → EReal) : Digest s ∅ fun _ => (⊥, 0#32) where
  sound := fun _ h => absurd h (lt_irrefl _)
  inj := fun _ _ h => absurd h (lt_irrefl _)
  full := fun i h => absurd h (Set.notMem_empty i)
  small := fun _ => by decide

/-! ## A stream of rows -/

/-- One entry through a list: the greater score stays, the smaller goes on. -/
def bub : Entry → List Entry → List Entry
  | _, [] => []
  | x, a :: l => if a.1 < x.1 then x :: bub a l else a :: bub x l

/-- What comes out at the end of the list. -/
def out : Entry → List Entry → Entry
  | x, [] => x
  | x, a :: l => if a.1 < x.1 then out a l else out x l

theorem bub_perm (x : Entry) (l : List Entry) : (x :: l).Perm (out x l :: bub x l) := by
  induction l generalizing x with
  | nil => exact List.Perm.refl _
  | cons a l ih =>
    unfold bub out
    split
    · exact (List.Perm.cons x (ih a)).trans (List.Perm.swap _ _ _)
    · exact (List.Perm.swap _ _ _).trans ((List.Perm.cons a (ih x)).trans (List.Perm.swap _ _ _))

theorem out_le (x : Entry) (l : List Entry) : ∀ z ∈ x :: l, (out x l).1 ≤ z.1 := by
  induction l generalizing x with
  | nil => intro z hz; simp at hz; rw [hz]; exact le_refl _
  | cons a l ih =>
    unfold out
    intro z hz
    split
    · rename_i h
      rcases List.mem_cons.mp hz with rfl | hz
      · exact (ih a a List.mem_cons_self).trans h.le
      · exact ih a z hz
    · rename_i h
      rcases List.mem_cons.mp hz with rfl | hz
      · exact ih _ _ List.mem_cons_self
      · rcases List.mem_cons.mp hz with rfl | hz
        · exact (ih x x List.mem_cons_self).trans (not_lt.mp h)
        · exact ih x z (List.mem_cons_of_mem _ hz)

/-- The list `l` keeps the best of the rows `rows` and five fillers. -/
def Kept (s : Fin N → EReal) (rows : List (Fin N)) (l : List Entry) : Prop :=
  ∃ rest : List Entry, (l ++ rest).Perm (rows.map (ent s) ++ List.replicate 5 (⊥, 0#32)) ∧ ∀ r ∈ rest, ∀ z ∈ l, r.1 ≤ z.1

theorem Kept.init (s : Fin N → EReal) : Kept s [] (List.replicate 5 (⊥, 0#32)) :=
  ⟨[], by simp, by simp⟩

theorem Kept.step {s : Fin N → EReal} {rows : List (Fin N)} {l : List Entry} (h : Kept s rows l) (i : Fin N) :
    Kept s (i :: rows) (bub (ent s i) l) := by
  obtain ⟨rest, hp, hle⟩ := h
  refine ⟨out (ent s i) l :: rest, ?_, ?_⟩
  · have h1 := bub_perm (ent s i) l
    have h2 : (bub (ent s i) l ++ out (ent s i) l :: rest).Perm (out (ent s i) l :: (bub (ent s i) l ++ rest)) :=
      List.perm_middle
    refine h2.trans ?_
    rw [← List.cons_append]
    refine ((h1.symm).append_right rest).trans ?_
    rw [List.cons_append, List.map_cons, List.cons_append]
    exact List.Perm.cons _ hp
  · intro r hr z hz
    have hz' : z ∈ ent s i :: l := (bub_perm (ent s i) l).mem_iff.mpr (List.mem_cons_of_mem _ hz)
    rcases List.mem_cons.mp hr with rfl | hr
    · exact out_le _ _ _ hz'
    · have ho : out (ent s i) l ∈ ent s i :: l := (bub_perm (ent s i) l).mem_iff.mpr List.mem_cons_self
      rcases List.mem_cons.mp ho with ho | ho
      · have h1 := bub_perm (ent s i) l
        rw [ho] at h1
        exact hle r hr z ((List.Perm.cons_inv h1).mem_iff.mpr hz)
      · exact (hle r hr _ ho).trans (out_le _ _ _ hz')

theorem Kept.digest (hN : N ≤ 2 ^ 31 - 1) {s : Fin N → EReal} {rows : List (Fin N)} {l : Fin 5 → Entry} (hr : rows.Nodup)
    (h : Kept s rows (List.ofFn l)) : Digest s {i | i ∈ rows} l := by
  obtain ⟨rest, hp, hle⟩ := h
  have hmem : ∀ j, l j ∈ List.ofFn l := fun j => (List.mem_ofFn).mpr ⟨j, rfl⟩
  have hin : ∀ j, l j ∈ rows.map (ent s) ++ List.replicate 5 ((⊥, 0#32) : Entry) := fun j =>
    hp.mem_iff.mp (List.mem_append_left _ (hmem j))
  refine ⟨?_, ?_, ?_, ?_⟩
  · intro j hj
    rcases List.mem_append.mp (hin j) with h | h
    · obtain ⟨i, hi, e⟩ := List.mem_map.mp h
      exact ⟨i, hi, e.symm⟩
    · rw [(List.mem_replicate.mp h).2] at hj
      exact absurd hj (lt_irrefl _)
  · have hs : Std.Symm (fun a b : Entry => ⊥ < a.1 → a ≠ b) := ⟨fun a b h hb e => h (by rw [← e]; exact hb) e.symm⟩
    have hpw : (List.ofFn l ++ rest).Pairwise (fun a b : Entry => ⊥ < a.1 → a ≠ b) := by
      refine (List.Perm.pairwise_iff (fun {a b} h => hs.symm a b h) hp).mpr ?_
      refine List.pairwise_append.mpr ⟨?_, ?_, ?_⟩
      · refine List.pairwise_map.mpr (List.Pairwise.imp ?_ hr)
        intro a b hab _ e
        exact hab (ent_inj hN s e)
      · refine List.pairwise_replicate.mpr (Or.inr fun h => absurd h (lt_irrefl _))
      · intro a _ b hb ha e
        rw [e, (List.mem_replicate.mp hb).2] at ha
        exact lt_irrefl _ ha
    have hpw := List.pairwise_ofFn.mp (List.pairwise_append.mp hpw).1
    intro j k hj e
    rcases lt_trichotomy j k with h | h | h
    · exact absurd e (hpw h hj)
    · exact h
    · exact absurd e.symm (hpw h (by rw [← e]; exact hj))
  · intro i hi _
    have : ent s i ∈ List.ofFn l ++ rest :=
      hp.mem_iff.mpr (List.mem_append_left _ (List.mem_map.mpr ⟨i, hi, rfl⟩))
    rcases List.mem_append.mp this with h | h
    · exact Or.inl ((List.mem_ofFn).mp h)
    · exact Or.inr fun j => hle _ h _ (hmem j)
  · intro j
    rcases List.mem_append.mp (hin j) with h | h
    · obtain ⟨i, hi, e⟩ := List.mem_map.mp h
      rw [← e]
      exact ent_ne_big hN s i
    · rw [(List.mem_replicate.mp h).2]
      decide

/-! ## Rounds of taking the greatest -/

/-- One round over the entries `v`: `p` is one of them of the greatest score, and every entry equal to it is emptied. -/
structure Round {ι : Type} (v v' : ι → Entry) (p : Entry) : Prop where
  mem : ∃ n, v n = p
  max : ∀ n, (v n).1 ≤ p.1
  next : ∀ n, v' n = if v n = p then (⊥, (v n).2) else v n

section rounds

variable {ι : Type} {v : ℕ → ι → Entry} {p : ℕ → Entry} (h : ∀ j, j < 5 → Round (v j) (v (j + 1)) (p j))

include h

theorem rounds_le {j k : ℕ} (hjk : j ≤ k) (hk : k ≤ 5) (n : ι) : (v k n).1 ≤ (v j n).1 := by
  induction k, hjk using Nat.le_induction with
  | base => exact le_refl _
  | succ k hjk ih =>
    refine le_trans ?_ (ih (by omega))
    rw [(h k (by omega)).next n]
    split
    · exact bot_le
    · exact le_refl _

theorem rounds_snd {k : ℕ} (hk : k ≤ 5) (n : ι) : (v k n).2 = (v 0 n).2 := by
  induction k with
  | zero => rfl
  | succ k ih =>
    rw [← ih (by omega), (h k (by omega)).next n]
    split <;> rfl

theorem rounds_real {j k : ℕ} (hjk : j ≤ k) (hk : k ≤ 5) (n : ι) (hn : ⊥ < (v k n).1) : v k n = v j n := by
  induction k, hjk using Nat.le_induction with
  | base => rfl
  | succ k hjk ih =>
    have e := (h k (by omega)).next n
    split at e
    · rw [e] at hn
      exact absurd hn (lt_irrefl _)
    · rw [e] at hn ⊢
      exact ih (by omega) hn

theorem rounds_antitone {j k : ℕ} (hjk : j ≤ k) (hk : k < 5) : (p k).1 ≤ (p j).1 := by
  obtain ⟨n, hn⟩ := (h k hk).mem
  rw [← hn]
  exact (rounds_le h hjk (by omega) n).trans ((h j (by omega)).max n)

theorem rounds_ne {j k : ℕ} (hjk : j < k) (hk : k < 5) (hr : ⊥ < (p j).1) : p j ≠ p k := by
  intro e
  obtain ⟨n, hn⟩ := (h k hk).mem
  have h1 : v k n = v (j + 1) n := rounds_real h hjk (by omega) n (by rw [hn, ← e]; exact hr)
  have h2 := (h j (by omega)).next n
  split at h2
  · rw [← h1, hn, ← e] at h2
    rw [h2] at hr
    exact lt_irrefl _ hr
  · rename_i hne
    exact hne (by rw [← h2, ← h1, hn, e])

theorem rounds_full (n : ι) (_hr : ⊥ < (v 0 n).1) : (∃ j, j < 5 ∧ p j = v 0 n) ∨ ∀ j, j < 5 → (v 0 n).1 ≤ (p j).1 := by
  by_cases hex : ∃ j, j < 5 ∧ p j = v 0 n
  · exact Or.inl hex
  · right
    have hstay : ∀ j, j ≤ 5 → v j n = v 0 n := by
      intro j
      induction j with
      | zero => intro _; rfl
      | succ j ih =>
        intro hj
        have e := ih (by omega)
        have e2 := (h j (by omega)).next n
        split at e2
        · rename_i hp
          exact absurd ⟨j, by omega, by rw [← hp, e]⟩ hex
        · rw [e2, e]
    intro j hj
    rw [← hstay j (by omega)]
    exact (h j hj).max n

end rounds

/-- Several lists merged by five rounds: the picks stand for all their rows, greatest score first. -/
theorem merge {s : Fin N → EReal} {ι β : Type} {P : β → Set (Fin N)} {L : β → Fin 5 → Entry}
    {v : ℕ → ι → Entry} {p : ℕ → Entry} (hd : ∀ b, Digest s (P b) (L b)) (h : ∀ j, j < 5 → Round (v j) (v (j + 1)) (p j))
    (hfrom : ∀ n, ∃ b j, v 0 n = L b j) (hall : ∀ b j, ∃ n, v 0 n = L b j) :
    Digest s (⋃ b, P b) (fun j => p j.val) := by
  have hpick : ∀ j, j < 5 → ∃ n, (v 0 n).2 = (p j).2 ∧ (⊥ < (p j).1 → v 0 n = p j) := by
    intro j hj
    obtain ⟨n, hn⟩ := (h j hj).mem
    refine ⟨n, ?_, ?_⟩
    · rw [← hn]
      exact (rounds_snd h (by omega) n).symm
    · intro hr
      rw [← hn] at hr ⊢
      exact (rounds_real h (Nat.zero_le j) (by omega) n hr).symm
  have hentry : ∀ b j, ⊥ < (L b j).1 → (∃ k : Fin 5, p k.val = L b j) ∨ ∀ k : Fin 5, (L b j).1 ≤ (p k.val).1 := by
    intro b j hr
    obtain ⟨n, hn⟩ := hall b j
    rw [← hn] at hr ⊢
    rcases rounds_full h n hr with ⟨k, hk, e⟩ | hk
    · exact Or.inl ⟨⟨k, hk⟩, e⟩
    · exact Or.inr fun k => hk k.val k.isLt
  refine ⟨?_, ?_, ?_, ?_⟩
  · intro j hj
    obtain ⟨n, _, hn⟩ := hpick j.val j.isLt
    obtain ⟨b, k, e⟩ := hfrom n
    have hn := hn hj
    rw [e] at hn
    obtain ⟨i, hi, ei⟩ := (hd b).sound k (by rw [hn]; exact hj)
    exact ⟨i, Set.mem_iUnion.mpr ⟨b, hi⟩, by rw [← ei, hn]⟩
  · intro j k hj e
    rcases lt_trichotomy j k with hjk | hjk | hjk
    · exact absurd e (rounds_ne h hjk k.isLt hj)
    · exact hjk
    · exact absurd e.symm (rounds_ne h hjk j.isLt (by have e' : p j.val = p k.val := e; rw [← e']; exact hj))
  · intro i hi hr
    obtain ⟨b, hb⟩ := Set.mem_iUnion.mp hi
    rcases (hd b).full i hb hr with ⟨j, e⟩ | hge
    · have hr' : ⊥ < (L b j).1 := by rw [e]; exact hr
      rcases hentry b j hr' with ⟨k, ek⟩ | hk
      · exact Or.inl ⟨k, by rw [← e]; exact ek⟩
      · refine Or.inr fun k => ?_
        have := hk k
        rw [e] at this
        exact this
    · by_cases hex : ∃ j, ∀ k : Fin 5, (L b j).1 ≤ (p k.val).1
      · obtain ⟨j, hj⟩ := hex
        exact Or.inr fun k => (hge j).trans (hj k)
      · right
        have hch : ∀ j, ∃ k : Fin 5, p k.val = L b j := fun j =>
          (hentry b j (lt_of_lt_of_le hr (hge j))).resolve_right fun hj => hex ⟨j, hj⟩
        choose f hf using hch
        have hfi : Function.Injective f := fun j j' e =>
          (hd b).inj j j' (lt_of_lt_of_le hr (hge j)) (by rw [← hf j, ← hf j', e])
        intro k
        obtain ⟨j, rfl⟩ := (Finite.injective_iff_surjective.mp hfi) k
        rw [hf j]
        exact hge j
  · intro j
    obtain ⟨n, hn, _⟩ := hpick j.val j.isLt
    obtain ⟨b, k, e⟩ := hfrom n
    show (p j.val).2 ≠ big
    rw [← hn, e]
    exact (hd b).small k

/-! ## Against a descending sort -/

section sorted

variable {s : Fin N → EReal} {l : Fin 5 → Entry} (hN : N ≤ 2 ^ 31 - 1) (h5 : 5 < N) (hd : Digest s Set.univ l)
  (ha : ∀ j k : Fin 5, j ≤ k → (l k).1 ≤ (l j).1) {σ : Fin N → Fin N} (hσ : Function.Injective σ)
  (hs : ∀ i j : Fin N, i < j → s (σ j) ≤ s (σ i))

include hs in
theorem sorted_le {i j : Fin N} (hij : i ≤ j) : s (σ j) ≤ s (σ i) := by
  rcases hij.lt_or_eq with h | h
  · exact hs i j h
  · rw [h]

include hN hd ha hσ hs

/-- The scores kept, in descending order, are the first five of the sort. -/
theorem score_eq (j : Fin 5) : (l j).1 = s (σ ⟨j.val, by omega⟩) := by
  have hsurj : Function.Surjective σ := Finite.injective_iff_surjective.mp hσ
  have no : ∀ f : Fin (j.val + 1) → Fin j.val, ¬ Function.Injective f := fun f hf => by
    have := Fintype.card_le_of_injective f hf
    simp at this
  refine le_antisymm ?_ ?_
  · by_contra hlt
    have hlt := not_le.mp hlt
    have hk : ∀ k : Fin (j.val + 1), ∃ m : Fin j.val, l ⟨k.val, by omega⟩ = ent s (σ ⟨m.val, by omega⟩) := by
      intro k
      have hge : (l j).1 ≤ (l ⟨k.val, by omega⟩).1 := ha _ _ (by simp only [Fin.le_def]; omega)
      obtain ⟨i, _, e⟩ := hd.sound ⟨k.val, by omega⟩ (lt_of_lt_of_le (lt_of_le_of_lt bot_le hlt) hge)
      obtain ⟨m, rfl⟩ := hsurj i
      have hv : (l ⟨k.val, by omega⟩).1 = s (σ m) := by rw [e]; rfl
      have hm : m.val < j.val := by
        by_contra hm
        have h1 := sorted_le hs (i := ⟨j.val, by omega⟩) (j := m) (by simp only [Fin.le_def]; omega)
        rw [hv] at hge
        exact absurd (hge.trans h1) (not_le.mpr hlt)
      exact ⟨⟨m.val, hm⟩, e⟩
    choose f hf using hk
    refine no f fun a b e => ?_
    have hge : (l j).1 ≤ (l ⟨a.val, by omega⟩).1 := ha _ _ (by simp only [Fin.le_def]; omega)
    have := hd.inj ⟨a.val, by omega⟩ ⟨b.val, by omega⟩ (lt_of_lt_of_le (lt_of_le_of_lt bot_le hlt) hge) (by rw [hf a, hf b, e])
    simp only [Fin.mk.injEq] at this
    exact Fin.ext this
  · by_contra hlt
    have hlt := not_le.mp hlt
    have hk : ∀ k : Fin (j.val + 1), ∃ m : Fin j.val, l ⟨m.val, by omega⟩ = ent s (σ ⟨k.val, by omega⟩) := by
      intro k
      have hge := sorted_le hs (i := ⟨k.val, by omega⟩) (j := ⟨j.val, by omega⟩) (by simp only [Fin.le_def]; omega)
      have hgt := lt_of_lt_of_le hlt hge
      rcases hd.full (σ ⟨k.val, by omega⟩) (Set.mem_univ _) (lt_of_le_of_lt bot_le hgt) with ⟨m, e⟩ | hall
      · have hv : (l m).1 = s (σ ⟨k.val, by omega⟩) := by rw [e]; rfl
        have hm : m.val < j.val := by
          by_contra hm
          have h1 := ha j m (by simp only [Fin.le_def]; omega)
          rw [hv] at h1
          exact absurd h1 (not_le.mpr hgt)
        exact ⟨⟨m.val, hm⟩, e⟩
      · exact absurd (hall j) (not_le.mpr hgt)
    choose f hf using hk
    refine no f fun a b e => ?_
    have h1 := hf a
    rw [e, hf b] at h1
    have := hσ (ent_inj hN s h1)
    simp only [Fin.mk.injEq] at this
    exact Fin.ext this.symm

/-- The row kept at a place whose score is above the next and below the one before is the sort's. -/
theorem row_eq (j : Fin 5) (hnext : s (σ ⟨j.val + 1, by omega⟩) < s (σ ⟨j.val, by omega⟩))
    (hprev : ∀ h : 0 < j.val, s (σ ⟨j.val, by omega⟩) < s (σ ⟨j.val - 1, by omega⟩)) :
    (l j).2 = BitVec.ofNat 32 (σ ⟨j.val, by omega⟩).val := by
  have hv := score_eq hN h5 hd ha hσ hs j
  obtain ⟨i, _, e⟩ := hd.sound j (by rw [hv]; exact lt_of_le_of_lt bot_le hnext)
  obtain ⟨m, rfl⟩ := (Finite.injective_iff_surjective.mp hσ) i
  have hv' : s (σ m) = s (σ ⟨j.val, by omega⟩) := by rw [← hv, e]; rfl
  have hm : m = ⟨j.val, by omega⟩ := by
    rcases lt_trichotomy m.val j.val with hlt | heq | hgt
    · have h1 := sorted_le hs (i := m) (j := ⟨j.val - 1, by omega⟩) (by simp only [Fin.le_def]; omega)
      have h2 := hprev (by omega)
      rw [← hv'] at h2
      exact absurd h1 (not_le.mpr h2)
    · exact Fin.ext heq
    · have h1 := sorted_le hs (i := ⟨j.val + 1, by omega⟩) (j := m) (by simp only [Fin.le_def]; omega)
      rw [hv'] at h1
      exact absurd h1 (not_le.mpr hnext)
  rw [e, hm]
  rfl

end sorted

end Cert.TopFive
-- ==== Proof.Rounds.lean ====
module

public import proofs.«01_k».proof.Proof.TopFive
public import Idealize.ShloMosaic.Lib.Pointwise
public import Idealize.ShloMosaic.Lib.Pipeline.Value

/-! The kernel's vector operations on the running lists of five, and what they do to one column: the insertion of a
block of scores into five registers, and the five rounds of maximum and removal over 48 rows. -/

@[expose] public section

noncomputable section

namespace Cert.Vec

open Idealize.ShloMosaic Cert.TopFive
open Idealize.ShloMosaic.ValueIdx (select_apply cmpf_apply)

abbrev S8x128 : Shape := ⟨2, ![8, 128]⟩
abbrev S48x128 : Shape := ⟨2, ![48, 128]⟩
abbrev S1x128 : Shape := ⟨2, ![1, 128]⟩
abbrev S128 : Shape := ⟨1, ![128]⟩

section insertion

variable {F : FTy → Type} [FloatOps F]

/-- Five registers of scores and five of row numbers. -/
abbrev Regs (F : FTy → Type) [FloatOps F] := FVec F S8x128 .f32 × FVec F S8x128 .f32 × FVec F S8x128 .f32 × FVec F S8x128 .f32 × FVec F S8x128 .f32 × IVec S8x128 32 × IVec S8x128 32 × IVec S8x128 32 × IVec S8x128 32 × IVec S8x128 32

/-- One block of scores `v` of the rows `i` inserted: in each place the new entry moves down past the scores that are
not smaller, and the smaller ones move down behind it. -/
def ins (v : FVec F S8x128 .f32) (i : IVec S8x128 32) (c : Regs F) : Regs F :=
  let g0 := cmpf .ogt v c.1
  let v1 := select g0 c.1 v
  let i1 := select g0 c.2.2.2.2.2.1 i
  let g1 := cmpf .ogt v1 c.2.1
  let v2 := select g1 c.2.1 v1
  let i2 := select g1 c.2.2.2.2.2.2.1 i1
  let g2 := cmpf .ogt v2 c.2.2.1
  let v3 := select g2 c.2.2.1 v2
  let i3 := select g2 c.2.2.2.2.2.2.2.1 i2
  let g3 := cmpf .ogt v3 c.2.2.2.1
  let v4 := select g3 c.2.2.2.1 v3
  let i4 := select g3 c.2.2.2.2.2.2.2.2.1 i3
  let g4 := cmpf .ogt v4 c.2.2.2.2.1
  (select g0 v c.1, select g1 v1 c.2.1, select g2 v2 c.2.2.1, select g3 v3 c.2.2.2.1, select g4 v4 c.2.2.2.2.1,
   select g0 i c.2.2.2.2.2.1, select g1 i1 c.2.2.2.2.2.2.1, select g2 i2 c.2.2.2.2.2.2.2.1,
   select g3 i3 c.2.2.2.2.2.2.2.2.1, select g4 i4 c.2.2.2.2.2.2.2.2.2)

/-- `n` insertions one after another. -/
def steps {U : ℕ} (row : Fin U → FVec F S8x128 .f32) (ix : ℕ → IVec S8x128 32) : (n : ℕ) → n ≤ U → Regs F → Regs F
  | 0, _, a => a
  | n + 1, h, a => ins (row ⟨n, h⟩) (ix n) (steps row ix n (Nat.le_of_succ_le h) a)

end insertion

/-- The five entries the registers hold at a place. -/
def slot (c : Regs Ideal) (x : S8x128.Idx) : Fin 5 → Entry :=
  ![(c.1 x, c.2.2.2.2.2.1 x), (c.2.1 x, c.2.2.2.2.2.2.1 x), (c.2.2.1 x, c.2.2.2.2.2.2.2.1 x),
    (c.2.2.2.1 x, c.2.2.2.2.2.2.2.2.1 x), (c.2.2.2.2.1 x, c.2.2.2.2.2.2.2.2.2 x)]

private theorem bub_cons (x a : Entry) (l : List Entry) :
    bub x (a :: l) = (if a.1 < x.1 then x else a) :: bub (if a.1 < x.1 then a else x) l := by
  rw [bub]; split <;> rfl

private theorem bub_nil (x : Entry) : bub x [] = [] := rfl

private theorem sel_gt (x a : EReal) (α : Type) (p q : α) :
    Scalar.select (FloatOps.cmpf (F := Ideal) (φ := .f32) .ogt x a) p q = if a < x then p else q := by
  rw [Ideal.cmpf_def]
  show Scalar.select (BitVec.ofBool (decide (a < x))) p q = _
  by_cases h : a < x <;> simp [h, Scalar.select]

private theorem pair_ite (c : Prop) [Decidable c] (a b : EReal) (i j : BitVec 32) :
    ((if c then a else b, if c then i else j) : Entry) = if c then (a, i) else (b, j) := by split <;> rfl

/-- The insertion, at one place, puts the new entry into the list of five. -/
theorem slot_ins (v : FVec Ideal S8x128 .f32) (i : IVec S8x128 32) (c : Regs Ideal) (x : S8x128.Idx) :
    List.ofFn (slot (ins v i c) x) = bub (v x, i x) (List.ofFn (slot c x)) := by
  simp only [slot, ins, List.ofFn_succ, List.ofFn_zero, Matrix.cons_val_zero, Matrix.cons_val_succ, select_apply,
    cmpf_apply, sel_gt, bub_cons, bub_nil, pair_ite, apply_ite Prod.fst, apply_ite Prod.snd]

/-- Insertions of blocks whose entries at a place are those of the rows `f` keep the list of the greatest. -/
theorem kept_steps {N U : ℕ} {s : Fin N → EReal} {row : Fin U → FVec Ideal S8x128 .f32} {ix : ℕ → IVec S8x128 32}
    {x : S8x128.Idx} {f : ℕ → Fin N} (a : Regs Ideal) (b : ℕ)
    (h0 : Kept s ((List.range b).reverse.map f) (List.ofFn (slot a x)))
    (hrow : ∀ u : Fin U, (row u x, ix u.val x) = ent s (f (b + u.val))) (n : ℕ) (hn : n ≤ U) :
    Kept s ((List.range (b + n)).reverse.map f) (List.ofFn (slot (steps row ix n hn a) x)) := by
  induction n with
  | zero => exact h0
  | succ n ih =>
    rw [steps, slot_ins, hrow ⟨n, hn⟩, ← Nat.add_assoc, List.range_succ, List.reverse_append]
    exact (ih _).step _

/-! ## Rounds of maximum and removal -/

theorem red48 : S48x128.Reduces [0] S128 := by decide
theorem cast128 : S128.ShapeCasts S1x128 := by decide
theorem bc48 : S1x128.Broadcasts S48x128 := by decide

section rounds

variable {F : FTy → Type} [FloatOps F]

/-- The greatest score of each column. -/
def top (v : FVec F S48x128 .f32) : FVec F S1x128 .f32 :=
  shapeCast S1x128 (multiReduction .maximumf [0] S128 v 0xFF800000#32 red48 (.inl rfl) rfl) cast128

/-- The row numbers of the entries with the greatest score, the greatest word at the others. -/
def cand (v : FVec F S48x128 .f32) (i : IVec S48x128 32) : IVec S48x128 32 :=
  select (cmpf .oeq v (broadcastTo S48x128 (top v) bc48)) i (broadcast S48x128 2147483647#32)

/-- The smallest row number among them. -/
def low (v : FVec F S48x128 .f32) (i : IVec S48x128 32) : IVec S1x128 32 :=
  shapeCast S1x128 (multiReductionI .minsi [0] S128 (cand v i) 2147483647#32 red48 rfl) cast128

/-- The entry found is taken out. -/
def rest (v : FVec F S48x128 .f32) (i : IVec S48x128 32) : FVec F S48x128 .f32 :=
  select (cmpi .eq (cand v i) (broadcastTo S48x128 (low v i) bc48)) (broadcast S48x128 (Scalar.ofBits .f32 0xFF800000#32)) v

/-- What is left after `j` rounds. -/
def left (v : FVec F S48x128 .f32) (i : IVec S48x128 32) : ℕ → FVec F S48x128 .f32
  | 0 => v
  | j + 1 => rest (left v i j) i

end rounds

private theorem minsi_mem {n : ℕ} (b : BitVec 32) (g : Fin n → BitVec 32) (t : Finset (Fin n)) :
    t.fold IntOp.minsi b g = b ∨ ∃ r ∈ t, t.fold IntOp.minsi b g = g r := by
  induction t using Finset.induction_on with
  | empty => exact .inl rfl
  | insert a t ha ih =>
    have h : IntOp.minsi (g a) (t.fold IntOp.minsi b g) = g a ∨
        IntOp.minsi (g a) (t.fold IntOp.minsi b g) = t.fold IntOp.minsi b g := by
      simp only [IntOp.minsi]; split_ifs <;> simp
    rw [Finset.fold_insert ha]
    rcases h with h | h <;> rw [h]
    · exact .inr ⟨a, Finset.mem_insert_self _ _, rfl⟩
    · rcases ih with h' | ⟨r, hr, h'⟩
      · exact .inl h'
      · exact .inr ⟨r, Finset.mem_insert_of_mem hr, h'⟩

private theorem minsi_le {n : ℕ} (b : BitVec 32) (g : Fin n → BitVec 32) (t : Finset (Fin n)) :
    ∀ r ∈ t, (t.fold IntOp.minsi b g).toInt ≤ (g r).toInt := by
  have h := (Finset.fold_op_rel_iff_and (op := IntOp.minsi) (r := fun a b : BitVec 32 => a.toInt ≤ b.toInt) (s := t) (b := b)
    (f := g) (c := t.fold IntOp.minsi b g) (fun {x y z} => by
      simp only [IntOp.minsi, BitVec.slt, decide_eq_true_eq]; split_ifs <;> omega)).1 (le_refl _)
  exact h.2

private theorem negInf : Ideal.ofBits .f32 0xFF800000#32 = (⊥ : EReal) := by
  simp [Ideal.ofBits, Ideal.ieee]

theorem top_apply (v : FVec Ideal S48x128 .f32) (r : Fin 1) (l : Fin 128) :
    top v (ix2 r l) = (Finset.univ : Finset (Fin 48)).sup fun n => v (ix2 n l) := by
  pointwise [top]
  rw [negInf]; rfl

theorem cand_apply (v : FVec Ideal S48x128 .f32) (i : IVec S48x128 32) (n : Fin 48) (l : Fin 128) :
    cand v i (ix2 n l) = if v (ix2 n l) = top v (ix2 0 l) then i (ix2 n l) else big := by
  pointwise [cand]

theorem low_apply (v : FVec Ideal S48x128 .f32) (i : IVec S48x128 32) (r : Fin 1) (l : Fin 128) :
    low v i (ix2 r l) = (Finset.univ : Finset (Fin 48)).fold IntOp.minsi big fun n => cand v i (ix2 n l) := by
  pointwise [low]

theorem rest_apply (v : FVec Ideal S48x128 .f32) (i : IVec S48x128 32) (n : Fin 48) (l : Fin 128) :
    rest v i (ix2 n l) = if cand v i (ix2 n l) = low v i (ix2 0 l) then ⊥ else v (ix2 n l) := by
  unfold rest
  generalize low v i = a
  generalize cand v i = c
  pointwise
  rw [negInf]
  show Scalar.select (BitVec.ofBool (c (ix2 n l) == a (ix2 0 l))) _ _ = _
  by_cases h : c (ix2 n l) = a (ix2 0 l)
  · rw [if_pos h, h, beq_self_eq_true]; rfl
  · rw [if_neg h, beq_eq_false_iff_ne.2 h]; rfl

/-- One round at a column, in the terms of `Round`: no entry there has the greatest word for its row. -/
theorem round_at (v : FVec Ideal S48x128 .f32) (i : IVec S48x128 32) (l : Fin 128) (hs : ∀ n, i (ix2 n l) ≠ big) :
    Round (fun n : Fin 48 => (v (ix2 n l), i (ix2 n l))) (fun n => (rest v i (ix2 n l), i (ix2 n l)))
      (top v (ix2 0 l), low v i (ix2 0 l)) := by
  have hle : ∀ n, v (ix2 n l) ≤ top v (ix2 0 l) := fun n => by
    rw [top_apply]; exact Finset.le_sup (f := fun n => v (ix2 n l)) (Finset.mem_univ n)
  obtain ⟨n₀, -, h₀⟩ := Finset.exists_mem_eq_sup (Finset.univ : Finset (Fin 48)) ⟨0, Finset.mem_univ _⟩ fun n => v (ix2 n l)
  rw [← top_apply v 0 l] at h₀
  have hmin := minsi_le big (fun n : Fin 48 => cand v i (ix2 n l)) Finset.univ
  have hmem := minsi_mem big (fun n : Fin 48 => cand v i (ix2 n l)) Finset.univ
  rw [← low_apply v i 0 l] at hmin hmem
  have hc₀ : cand v i (ix2 n₀ l) = i (ix2 n₀ l) := by rw [cand_apply, if_pos h₀.symm]
  have hne : low v i (ix2 0 l) ≠ big := fun h => by
    have h1 := hmin n₀ (Finset.mem_univ _)
    rw [h, hc₀] at h1
    have h2 := BitVec.toInt_lt (x := i (ix2 n₀ l))
    have hb : big.toInt = 2147483647 := by decide
    have h3 : (i (ix2 n₀ l)).toInt = big.toInt := by
      rw [hb] at h1 ⊢
      norm_num at h2
      omega
    exact hs n₀ (BitVec.eq_of_toInt_eq h3)
  have hiff : ∀ n, cand v i (ix2 n l) = low v i (ix2 0 l) ↔
      ((v (ix2 n l), i (ix2 n l)) : Entry) = (top v (ix2 0 l), low v i (ix2 0 l)) := fun n => by
    rw [cand_apply, Prod.mk.injEq]
    by_cases h : v (ix2 n l) = top v (ix2 0 l)
    · simp [h]
    · simp [h, hne.symm]
  refine ⟨?_, fun n => by dsimp only; exact hle n, fun n => ?_⟩
  · rcases hmem with h | ⟨n, -, h⟩
    · exact absurd h hne
    · exact ⟨n, (hiff n).1 h.symm⟩
  · rw [rest_apply]
    by_cases h : cand v i (ix2 n l) = low v i (ix2 0 l)
    · rw [if_pos h, if_pos ((hiff n).1 h)]
    · rw [if_neg h, if_neg (mt (hiff n).2 h)]

/-! ## One merge of the registers into the running lists -/

theorem cat48 : Shape.Concatenates [S8x128, S8x128, S8x128, S8x128, S8x128, S8x128] S48x128 0 := by decide
theorem cat8 : Shape.Concatenates [S1x128, S1x128, S1x128, S1x128, S1x128, S1x128, S1x128, S1x128] S8x128 0 := by decide
theorem cast8 : S8x128.ShapeCasts S8x128 := by decide

section merge

variable {F : FTy → Type} [FloatOps F]

/-- The register scores above the running scores. -/
def stackV (c : Regs F) (rv : FVec F S8x128 .f32) : FVec F S48x128 .f32 :=
  concatenate S48x128 0 [⟨S8x128, c.1⟩, ⟨S8x128, c.2.1⟩, ⟨S8x128, c.2.2.1⟩, ⟨S8x128, c.2.2.2.1⟩, ⟨S8x128, c.2.2.2.2.1⟩, ⟨S8x128, rv⟩] cat48

/-- The register row numbers above the running ones. -/
def stackI (c : Regs F) (ri : IVec S8x128 32) : IVec S48x128 32 :=
  concatenate S48x128 0 [⟨S8x128, c.2.2.2.2.2.1⟩, ⟨S8x128, c.2.2.2.2.2.2.1⟩, ⟨S8x128, c.2.2.2.2.2.2.2.1⟩, ⟨S8x128, c.2.2.2.2.2.2.2.2.1⟩, ⟨S8x128, c.2.2.2.2.2.2.2.2.2⟩, ⟨S8x128, ri⟩] cat48

/-- The new running scores. -/
def newV (v : FVec F S48x128 .f32) (i : IVec S48x128 32) : FVec F S8x128 .f32 :=
  shapeCast S8x128 (concatenate S8x128 0 [⟨S1x128, top (left v i 0)⟩, ⟨S1x128, top (left v i 1)⟩, ⟨S1x128, top (left v i 2)⟩, ⟨S1x128, top (left v i 3)⟩, ⟨S1x128, top (left v i 4)⟩, ⟨S1x128, top (left v i 4)⟩, ⟨S1x128, top (left v i 4)⟩, ⟨S1x128, top (left v i 4)⟩] cat8) cast8

/-- The new running row numbers. -/
def newI (v : FVec F S48x128 .f32) (i : IVec S48x128 32) : IVec S8x128 32 :=
  shapeCast S8x128 (concatenate S8x128 0 [⟨S1x128, low (left v i 0) i⟩, ⟨S1x128, low (left v i 1) i⟩, ⟨S1x128, low (left v i 2) i⟩, ⟨S1x128, low (left v i 3) i⟩, ⟨S1x128, low (left v i 4) i⟩, ⟨S1x128, low (left v i 4) i⟩, ⟨S1x128, low (left v i 4) i⟩, ⟨S1x128, low (left v i 4) i⟩] cat8) cast8

end merge

private theorem cat48_apply {α : Type} (f : Fin 6 → S8x128.Idx → α) (n : Fin 48) (l : Fin 128) :
    concatenate S48x128 0 [⟨S8x128, f 0⟩, ⟨S8x128, f 1⟩, ⟨S8x128, f 2⟩, ⟨S8x128, f 3⟩, ⟨S8x128, f 4⟩, ⟨S8x128, f 5⟩] cat48 (ix2 n l)
      = f ⟨n.val / 8, by omega⟩ (ix2 ⟨n.val % 8, by omega⟩ l) :=
  concatenate_ofFn_apply (0 : Fin S48x128.rank) f cat48 rfl 8 rfl (ix2 n l) ⟨n.val / 8, by omega⟩ rfl (ix2 ⟨n.val % 8, by omega⟩ l) rfl
    fun b hb => by match b with | ⟨0, _⟩ => exact absurd rfl hb | ⟨1, _⟩ => rfl

private theorem cat8_apply {α : Type} (f : Fin 8 → S1x128.Idx → α) (n : Fin 8) (l : Fin 128) :
    concatenate S8x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] cat8 (ix2 n l)
      = f n (ix2 0 l) :=
  concatenate_ofFn_apply (0 : Fin S8x128.rank) f cat8 rfl 1 rfl (ix2 n l) n (Nat.div_one _) (ix2 0 l) (Nat.mod_one _).symm
    fun b hb => by match b with | ⟨0, _⟩ => exact absurd rfl hb | ⟨1, _⟩ => rfl

/-- The entry of round `j` at a column. -/
def pick (v : FVec Ideal S48x128 .f32) (i : IVec S48x128 32) (l : Fin 128) (j : ℕ) : Entry :=
  (top (left v i j) (ix2 0 l), low (left v i j) i (ix2 0 l))

theorem new_apply (v : FVec Ideal S48x128 .f32) (i : IVec S48x128 32) (n : Fin 8) (l : Fin 128) :
    ((newV v i (ix2 n l), newI v i (ix2 n l)) : Entry) = pick v i l (min n.val 4) := by
  have hv := cat8_apply (fun m : Fin 8 => top (left v i (min m.val 4))) n l
  have hi := cat8_apply (fun m : Fin 8 => low (left v i (min m.val 4)) i) n l
  rw [newV, newI, shapeCast_self, shapeCast_self]
  unfold pick
  exact congrArg₂ Prod.mk hv hi

private theorem slot_or_run (c : Regs Ideal) (rv : FVec Ideal S8x128 .f32) (ri : IVec S8x128 32) (q : Fin 6) (x : S8x128.Idx) :
    ((![c.1, c.2.1, c.2.2.1, c.2.2.2.1, c.2.2.2.2.1, rv] q x,
      ![c.2.2.2.2.2.1, c.2.2.2.2.2.2.1, c.2.2.2.2.2.2.2.1, c.2.2.2.2.2.2.2.2.1, c.2.2.2.2.2.2.2.2.2, ri] q x) : Entry)
      = if h : q.val < 5 then slot c x ⟨q.val, h⟩ else (rv x, ri x) := by
  fin_cases q <;> rfl

/-- A column of running lists: five entries standing for the rows `R`, the last one repeated below. -/
structure Col {N : ℕ} (s : Fin N → EReal) (R : Set (Fin N)) (rv : FVec Ideal S8x128 .f32) (ri : IVec S8x128 32) (l : Fin 128) :
    Prop where
  digest : Digest s R fun j : Fin 5 => (rv (ix2 (j.castLE (by omega)) l), ri (ix2 (j.castLE (by omega)) l))
  fill : ∀ n : Fin 8, 4 ≤ n.val → ((rv (ix2 n l), ri (ix2 n l)) : Entry) = (rv (ix2 4 l), ri (ix2 4 l))

/-- The merge: the new running lists stand for the rows of the registers and the earlier ones, greatest score first. -/
theorem merge_col {N : ℕ} {s : Fin N → EReal} {P : Fin 8 → Set (Fin N)} {R : Set (Fin N)} {c : Regs Ideal}
    {rv : FVec Ideal S8x128 .f32} {ri : IVec S8x128 32} {l : Fin 128} (hc : ∀ b, Digest s (P b) (slot c (ix2 b l)))
    (hr : Col s R rv ri l) :
    Col s ((⋃ b, P b) ∪ R) (newV (stackV c rv) (stackI c ri)) (newI (stackV c rv) (stackI c ri)) l ∧
      ∀ j k : Fin 8, j ≤ k → newV (stackV c rv) (stackI c ri) (ix2 k l) ≤ newV (stackV c rv) (stackI c ri) (ix2 j l) := by
  let L : Option (Fin 8) → Fin 5 → Entry := fun b => match b with
    | some b => slot c (ix2 b l)
    | none => fun j => (rv (ix2 (j.castLE (by omega)) l), ri (ix2 (j.castLE (by omega)) l))
  let Q : Option (Fin 8) → Set (Fin N) := fun b => match b with | some b => P b | none => R
  have hd : ∀ b, Digest s (Q b) (L b) := fun b => match b with | some b => hc b | none => hr.digest
  have hst : ∀ n : Fin 48, ((stackV c rv (ix2 n l), stackI c ri (ix2 n l)) : Entry)
      = if h : n.val / 8 < 5 then slot c (ix2 ⟨n.val % 8, by omega⟩ l) ⟨n.val / 8, h⟩
        else (rv (ix2 ⟨n.val % 8, by omega⟩ l), ri (ix2 ⟨n.val % 8, by omega⟩ l)) := fun n => by
    have hv := cat48_apply ![c.1, c.2.1, c.2.2.1, c.2.2.2.1, c.2.2.2.2.1, rv] n l
    have hi := cat48_apply ![c.2.2.2.2.2.1, c.2.2.2.2.2.2.1, c.2.2.2.2.2.2.2.1, c.2.2.2.2.2.2.2.2.1, c.2.2.2.2.2.2.2.2.2, ri] n l
    refine (congrArg₂ Prod.mk hv hi).trans ?_
    exact slot_or_run c rv ri ⟨n.val / 8, by omega⟩ (ix2 ⟨n.val % 8, by omega⟩ l)
  have hfrom : ∀ n : Fin 48, ∃ b j, ((stackV c rv (ix2 n l), stackI c ri (ix2 n l)) : Entry) = L b j := fun n => by
    rw [hst]
    split
    · exact ⟨some _, _, rfl⟩
    · rename_i h
      by_cases h4 : n.val % 8 < 5
      · exact ⟨none, ⟨n.val % 8, h4⟩, rfl⟩
      · exact ⟨none, 4, hr.fill _ (by simp only; omega)⟩
  have hall : ∀ b j, ∃ n : Fin 48, ((stackV c rv (ix2 n l), stackI c ri (ix2 n l)) : Entry) = L b j := fun b j => by
    match b with
    | some b =>
      refine ⟨⟨8 * j.val + b.val, by omega⟩, ?_⟩
      have h1 : (8 * j.val + b.val) / 8 = j.val := by omega
      have h2 : (8 * j.val + b.val) % 8 = b.val := by omega
      rw [hst]
      simp only [h1, h2]
      rw [dif_pos j.isLt]
    | none =>
      refine ⟨⟨40 + j.val, by omega⟩, ?_⟩
      have h1 : (40 + j.val) / 8 = 5 := by omega
      have h2 : (40 + j.val) % 8 = j.val := by omega
      rw [hst]
      simp only [h1, h2]
      rw [dif_neg (by omega)]
      rfl
  have hsmall : ∀ n : Fin 48, stackI c ri (ix2 n l) ≠ big := fun n => by
    obtain ⟨b, j, h⟩ := hfrom n
    rw [show stackI c ri (ix2 n l) = (L b j).2 from congrArg Prod.snd h]
    exact (hd b).small j
  have hround : ∀ j, j < 5 → Round (fun n : Fin 48 => (left (stackV c rv) (stackI c ri) j (ix2 n l), stackI c ri (ix2 n l)))
      (fun n => (left (stackV c rv) (stackI c ri) (j + 1) (ix2 n l), stackI c ri (ix2 n l))) (pick (stackV c rv) (stackI c ri) l j) :=
    fun j _ => round_at _ _ l hsmall
  have hm := merge hd hround hfrom hall
  have hQ : (⋃ b, Q b) = (⋃ b, P b) ∪ R := by
    ext i
    simp only [Set.mem_iUnion, Set.mem_union]
    constructor
    · rintro ⟨b, h⟩
      match b with
      | some b => exact .inl ⟨b, h⟩
      | none => exact .inr h
    · rintro (⟨b, h⟩ | h)
      · exact ⟨some b, h⟩
      · exact ⟨none, h⟩
  rw [hQ] at hm
  refine ⟨⟨?_, fun n hn => ?_⟩, fun j k hjk => ?_⟩
  · convert hm using 2 with j
    rw [new_apply]
    congr 1
    exact min_eq_left (by simp only [Fin.val_castLE]; omega)
  · rw [new_apply, new_apply]
    congr 1
    rw [min_eq_right hn]; rfl
  · have e : ∀ n : Fin 8, newV (stackV c rv) (stackI c ri) (ix2 n l) = (pick (stackV c rv) (stackI c ri) l (min n.val 4)).1 :=
      fun n => congrArg Prod.fst (new_apply _ _ n l)
    rw [e, e]
    exact rounds_antitone hround (min_le_min_right 4 hjk) (by omega)

end Cert.Vec
-- ==== Proof.Trips.lean ====
module

public import proofs.«01_k».proof.Proof.Rounds
public import proofs.«01_k».proof.Proof.Gen.KernelIdeal.Loops
public import Idealize.ShloMosaic.Lib.VecWindow

/-! The eight counted loops of the kernel. Each goes through the 500 blocks of eight rows of the score table for its own
128 columns, and leaves in its registers, at every place, the five best of the 500 rows that pass that place. -/

@[expose] public section

set_option maxRecDepth 100000
set_option maxHeartbeats 4000000

noncomputable section

namespace Cert.Lanes

open Idealize.ShloMosaic Idealize.ShloMosaic.TcCoe Cert.KernelIdeal Cert.KernelIdeal.Gen Cert.TopFive
open Cert.Vec (Regs ins steps slot kept_steps)

/-- The insertions of one trip. -/
abbrev U : ℕ := 100

/-- The trips of one loop. -/
abbrev T : ℕ := 5

/-! ## The rows that pass one place -/

/-- The `n`-th row that passes sublane `b` in block `t` of the rows. -/
def rowOf (t b n : ℕ) : Fin 100000 := ⟨(4000 * t + 8 * n + b) % 100000, Nat.mod_lt _ (by omega)⟩

theorem rowOf_val {t b n : ℕ} (ht : t < 25) (hb : b < 8) (hn : n < 500) : (rowOf t b n).val = 4000 * t + 8 * n + b :=
  Nat.mod_eq_of_lt (by omega)

/-- All the rows that pass it. -/
def rowsOf (t b : ℕ) : Set (Fin 100000) := {i | i ∈ (List.range 500).reverse.map (rowOf t b)}

theorem rows_nodup {t b : ℕ} (ht : t < 25) (hb : b < 8) : ((List.range 500).reverse.map (rowOf t b)).Nodup := by
  refine List.Nodup.map_on (fun x hx y hy h => ?_) (List.nodup_reverse.2 List.nodup_range)
  simp only [List.mem_reverse, List.mem_range] at hx hy
  have := congrArg Fin.val h
  rw [rowOf_val ht hb hx, rowOf_val ht hb hy] at this
  omega

/-- The eight sublanes together see the block's 4000 rows. -/
theorem rows_union {t : ℕ} (ht : t < 25) :
    (⋃ b : Fin 8, rowsOf t b.val) = {i : Fin 100000 | 4000 * t ≤ i.val ∧ i.val < 4000 * (t + 1)} := by
  ext i
  simp only [rowsOf, Set.mem_iUnion, Set.mem_setOf_eq, List.mem_map, List.mem_reverse, List.mem_range]
  constructor
  · rintro ⟨b, n, hn, rfl⟩
    rw [rowOf_val ht b.isLt hn]
    omega
  · rintro ⟨h1, h2⟩
    refine ⟨⟨(i.val - 4000 * t) % 8, Nat.mod_lt _ (by omega)⟩, (i.val - 4000 * t) / 8, by omega, Fin.ext ?_⟩
    rw [rowOf_val ht (Nat.mod_lt _ (by omega)) (by omega)]
    omega

/-! ## One loop -/

theorem step_lt (k : Fin T) (u : Fin U) : U * k.val + u.val < 500 := by
  have hk : k.val < 5 := k.isLt
  have hu : u.val < 100 := u.isLt
  show 100 * k.val + u.val < 500
  omega

/-- A loop of such trips from empty registers. -/
theorem loop_digest {s : Fin 100000 → EReal} {t : ℕ} (ht : t < 25) {b : Fin 8} {x : Cert.Vec.S8x128.Idx} (st : ℕ → Regs Ideal)
    (row : Fin T → Fin U → FVec Ideal S8x128 .f32) (ix : Fin T → ℕ → IVec S8x128 32)
    (h0 : slot (st 0) x = fun _ => (⊥, 0#32))
    (hs : ∀ k : Fin T, st (k.val + 1) = steps (row k) (ix k) U le_rfl (st k.val))
    (hrow : ∀ (k : Fin T) (u : Fin U), (row k u x, ix k u.val x) = ent s (rowOf t b.val (U * k.val + u.val))) :
    Digest s (rowsOf t b.val) (slot (st T) x) := by
  have hk : ∀ n, n ≤ T → Kept s ((List.range (U * n)).reverse.map (rowOf t b.val)) (List.ofFn (slot (st n) x)) := by
    intro n
    induction n with
    | zero => intro _; rw [h0]; exact Kept.init s
    | succ n ih =>
      intro hn
      rw [hs ⟨n, hn⟩]
      exact kept_steps _ _ (ih (Nat.le_of_succ_le hn)) (hrow ⟨n, hn⟩) U le_rfl
  exact (hk T le_rfl).digest (by norm_num) (rows_nodup ht b.isLt)

/-- The number of the first row of the grid point's block. -/
def base (i : grid0.Coords) : BitVec 32 := Scalar.muli (BitVec.ofNat 32 (i 0).val) 4000#32

/-- Each sublane's number. -/
def iotaS : IVec S8x128 32 := iota .tc S8x128 32 [0] iota_S8x128_d0_w32

/-- The row numbers of insertion `u` of trip `k`. -/
def idx (v : BitVec 32) (w : IVec S8x128 32) (k : ℕ) (u : ℕ) : IVec S8x128 32 :=
  addi w (broadcast S8x128 (Scalar.addi v (Scalar.muli (Scalar.addi (Scalar.muli (Scf.iv 0#32 1#32 k) 100#32) (BitVec.ofNat 32 u)) 8#32)))

theorem idx_apply {i : grid0.Coords} {t : ℕ} (hi : (i 0).val = t) (ht : t < 25) (k : Fin T) (u : Fin U) (b : Fin 8) (l : Fin 128) :
    idx (base i) iotaS k.val u.val (ix2 b l) = BitVec.ofNat 32 (rowOf t b.val (U * k.val + u.val)).val := by
  have hn := step_lt k u
  rw [rowOf_val ht b.isLt (by omega)]
  show BitVec.ofNat 32 (0 * 8 + b.val) + (BitVec.ofNat 32 (i 0).val * BitVec.ofNat 32 4000
    + ((BitVec.ofNat 32 0 + BitVec.ofNat 32 k.val * BitVec.ofNat 32 1) * BitVec.ofNat 32 100 + BitVec.ofNat 32 u.val) * BitVec.ofNat 32 8) = _
  rw [hi]
  simp only [← BitVec.ofNat_mul, ← BitVec.ofNat_add]
  congr 1
  show _ = 4000 * t + 8 * (100 * k.val + u.val) + b.val
  omega

/-- The rectangle of the score table that trip `k` reads for insertion `u`, for the columns from `c` on. -/
theorem off_eq (k : Fin T) (u : Fin U) (c : ℕ) :
    (![BitVec.toNat ((((0#32 + BitVec.ofNat 32 k.val * 1#32) * 100#32) + BitVec.ofNat 32 u.val) * 8#32), c] : Fin 2 → ℕ)
      = ![8 * (U * k.val + u.val), c] := by
  have hn := step_lt k u
  congr 1
  show (((BitVec.ofNat 32 0 + BitVec.ofNat 32 k.val * BitVec.ofNat 32 1) * BitVec.ofNat 32 100 + BitVec.ofNat 32 u.val) * BitVec.ofNat 32 8).toNat = 8 * (100 * k.val + u.val)
  replace hn : 100 * k.val + u.val < 500 := hn
  simp only [← BitVec.ofNat_mul, ← BitVec.ofNat_add, BitVec.toNat_ofNat]
  omega

section

variable (i : grid0.Coords) (arg1 : Memref sig .tc .vmem S1024x512 .f32) (harg1 : arg1.IsWhole) (arg2 : Memref sig .tc .vmem S4000x512 .f32) (harg2 : arg2.IsWhole)
  (arg3 : Memref sig .tc .vmem S8x1024 .f32) (harg3 : arg3.IsWhole) (arg4 : Memref sig .tc .vmem S8x1024 .i32) (harg4 : arg4.IsWhole)
  (arg5 : Memref sig .tc .vmem S4000x1024 .f32) (harg5 : arg5.IsWhole) (arg6 : Memref sig .tc .vmem S8x1024 .f32) (harg6 : arg6.IsWhole)
  (arg7 : Memref sig .tc .vmem S8x1024 .i32) (harg7 : arg7.IsWhole) (arg8 : Memref sig .tc .vmem S1024x512 .f32) (harg8 : arg8.IsWhole)

variable {F : FTy → Type} [FloatOps F]
variable (c : Dev nD) (X : BufTy.Contents (Elt F) arg5.view.ty) (a : Regs F)

theorem win_inb (g : Fin 8) (k : Fin T) (u : Fin U) (d : Fin 2) :
    (![8 * (U * k.val + u.val), 128 * g.val] : Fin 2 → ℕ) d + S8x128.size d ≤ S4000x1024.size d := by
  have hn := step_lt k u
  have hg := g.isLt
  fin_cases d
  · show 8 * (U * k.val + u.val) + 8 ≤ 4000
    omega
  · show 128 * g.val + 128 ≤ 1024
    omega

/-- What insertion `u` of trip `k` reads for lane group `g`. -/
def rowAt (Y : S4000x1024.Idx → Elt F .f32) (g : Fin 8) (k : Fin T) (u : Fin U) : FVec F S8x128 .f32 :=
  VecWindow.window Y ![8 * (U * k.val + u.val), 128 * g.val] S8x128.size (win_inb g k u)

theorem rowAt_apply (Y : S4000x1024.Idx → Elt F .f32) (g : Fin 8) (k : Fin T) (u : Fin U) (b : Fin 8) (l : Fin 128) :
    rowAt Y g k u (ix2 b l) = Y (ix2 ⟨8 * (U * k.val + u.val) + b.val, by have hn := step_lt k u; omega⟩ ⟨128 * g.val + l.val, by omega⟩) := by
  unfold rowAt VecWindow.window
  refine congrArg Y (funext fun d => Fin.ext ?_)
  fin_cases d
  · show 8 * (U * k.val + u.val) + 1 * b.val = _
    simp
  · show 128 * g.val + 1 * l.val = _
    simp

/-- The registers `st k` of lane group `g` before trip `k`: from `a`, each trip inserts its blocks of `Y` in order. -/
structure Runs (Y : S4000x1024.Idx → Elt F .f32) (g : Fin 8) (st : ℕ → Regs F) : Prop where
  zero : st 0 = a
  succ : ∀ k : Fin T, st (k.val + 1) = steps (rowAt Y g k) (idx (base i) iotaS k.val) U le_rfl (st k.val)

variable {arg5 i a} in
theorem runs_of {g : Fin 8} {st : ℕ → Regs F} (off : Fin T → BitVec 32 → Fin 2 → ℕ)
    (inb : ∀ (k : Fin T) (u : Fin U) (d : Fin 2), off k (BitVec.ofNat 32 u.val) d + S8x128.size d ≤ S4000x1024.size d)
    (h0 : st 0 = a)
    (hoff : ∀ (k : Fin T) (u : Fin U), off k (BitVec.ofNat 32 u.val)
      = ![BitVec.toNat ((((0#32 + BitVec.ofNat 32 k.val * 1#32) * 100#32) + BitVec.ofNat 32 u.val) * 8#32), 128 * g.val])
    (hs : ∀ k : Fin T, st (k.val + 1)
      = steps (fun u : Fin U => View.readAt (Elt F) arg5.view (Rect.unit (s := S4000x1024) (off k (BitVec.ofNat 32 u.val)) S8x128.size (inb k u)).toLoadRect X)
          (idx (base i) iotaS k.val) U le_rfl (st k.val)) :
    Runs i a (arg5.view.read (Elt F) X) g st :=
  ⟨h0, fun k => (hs k).trans (congrArg (fun r => steps r (idx (base i) iotaS k.val) U le_rfl (st k.val))
    (funext fun u => View.readAt_unit arg5.view X (inb k u) ((hoff k u).trans (off_eq k u _)) (win_inb g k u)))⟩

theorem runs1 : Runs i a (arg5.view.read (Elt F) X) 0 (st_k0_t1 (F := F) Variants.none c none i arg1 harg1 arg2 harg2 arg3 harg3 arg4 harg4 arg5 harg5 arg6 harg6 arg7 harg7 arg8 harg8 (base i) iotaS X a) :=
  runs_of X k0_off1 k0_off1_inb rfl (fun _ _ => rfl) fun k => (st_k0_t1_succ (F := F) Variants.none c none i arg1 harg1 arg2 harg2 arg3 harg3 arg4 harg4 arg5 harg5 arg6 harg6 arg7 harg7 arg8 harg8 (base i) iotaS X a k).trans
    (by unfold tripR_k0_t1 trip_k0_t1; dsimp only; rfl)
theorem runs2 : ∀ w1 w2 w3 w4 w5 w6 w7 w8 w9 w10 w11 w12, Runs i a (arg5.view.read (Elt F) X) 1 (st_k0_t2 (F := F) Variants.none c none i arg1 harg1 arg2 harg2 arg3 harg3 arg4 harg4 arg5 harg5 arg6 harg6 arg7 harg7 arg8 harg8 (base i) iotaS w1 w2 w3 w4 w5 w6 w7 w8 w9 w10 w11 w12 X a) :=
  fun w1 w2 w3 w4 w5 w6 w7 w8 w9 w10 w11 w12 => runs_of X k0_off2 k0_off2_inb rfl (fun _ _ => rfl) fun k => (st_k0_t2_succ (F := F) Variants.none c none i arg1 harg1 arg2 harg2 arg3 harg3 arg4 harg4 arg5 harg5 arg6 harg6 arg7 harg7 arg8 harg8 (base i) iotaS w1 w2 w3 w4 w5 w6 w7 w8 w9 w10 w11 w12 X a k).trans
    (by unfold tripR_k0_t2 trip_k0_t2; dsimp only; rfl)
theorem runs3 : ∀ w1 w2 w3 w4 w5 w6 w7 w8 w9 w10 w11, Runs i a (arg5.view.read (Elt F) X) 2 (st_k0_t3 (F := F) Variants.none c none i arg1 harg1 arg2 harg2 arg3 harg3 arg4 harg4 arg5 harg5 arg6 harg6 arg7 harg7 arg8 harg8 (base i) iotaS w1 w2 w3 w4 w5 w6 w7 w8 w9 w10 w11 X a) :=
  fun w1 w2 w3 w4 w5 w6 w7 w8 w9 w10 w11 => runs_of X k0_off3 k0_off3_inb rfl (fun _ _ => rfl) fun k => (st_k0_t3_succ (F := F) Variants.none c none i arg1 harg1 arg2 harg2 arg3 harg3 arg4 harg4 arg5 harg5 arg6 harg6 arg7 harg7 arg8 harg8 (base i) iotaS w1 w2 w3 w4 w5 w6 w7 w8 w9 w10 w11 X a k).trans
    (by unfold tripR_k0_t3 trip_k0_t3; dsimp only; rfl)
theorem runs4 : ∀ w1 w2 w3 w4 w5 w6 w7 w8 w9 w10, Runs i a (arg5.view.read (Elt F) X) 3 (st_k0_t4 (F := F) Variants.none c none i arg1 harg1 arg2 harg2 arg3 harg3 arg4 harg4 arg5 harg5 arg6 harg6 arg7 harg7 arg8 harg8 (base i) iotaS w1 w2 w3 w4 w5 w6 w7 w8 w9 w10 X a) :=
  fun w1 w2 w3 w4 w5 w6 w7 w8 w9 w10 => runs_of X k0_off4 k0_off4_inb rfl (fun _ _ => rfl) fun k => (st_k0_t4_succ (F := F) Variants.none c none i arg1 harg1 arg2 harg2 arg3 harg3 arg4 harg4 arg5 harg5 arg6 harg6 arg7 harg7 arg8 harg8 (base i) iotaS w1 w2 w3 w4 w5 w6 w7 w8 w9 w10 X a k).trans
    (by unfold tripR_k0_t4 trip_k0_t4; dsimp only; rfl)
theorem runs5 : ∀ w1 w2 w3 w4 w5 w6 w7 w8 w9 w10, Runs i a (arg5.view.read (Elt F) X) 4 (st_k0_t5 (F := F) Variants.none c none i arg1 harg1 arg2 harg2 arg3 harg3 arg4 harg4 arg5 harg5 arg6 harg6 arg7 harg7 arg8 harg8 (base i) iotaS w1 w2 w3 w4 w5 w6 w7 w8 w9 w10 0#32 1#32 X a) :=
  fun w1 w2 w3 w4 w5 w6 w7 w8 w9 w10 => runs_of X k0_off5 k0_off5_inb rfl (fun _ _ => rfl) fun k => (st_k0_t5_succ (F := F) Variants.none c none i arg1 harg1 arg2 harg2 arg3 harg3 arg4 harg4 arg5 harg5 arg6 harg6 arg7 harg7 arg8 harg8 (base i) iotaS w1 w2 w3 w4 w5 w6 w7 w8 w9 w10 0#32 1#32 X a k).trans
    (by unfold tripR_k0_t5 trip_k0_t5; dsimp only; rfl)
theorem runs6 : ∀ w1 w2 w3 w4 w5 w6 w7 w8 w9 w10, Runs i a (arg5.view.read (Elt F) X) 5 (st_k0_t6 (F := F) Variants.none c none i arg1 harg1 arg2 harg2 arg3 harg3 arg4 harg4 arg5 harg5 arg6 harg6 arg7 harg7 arg8 harg8 (base i) iotaS w1 w2 w3 w4 w5 w6 w7 w8 w9 w10 0#32 X a) :=
  fun w1 w2 w3 w4 w5 w6 w7 w8 w9 w10 => runs_of X k0_off6 k0_off6_inb rfl (fun _ _ => rfl) fun k => (st_k0_t6_succ (F := F) Variants.none c none i arg1 harg1 arg2 harg2 arg3 harg3 arg4 harg4 arg5 harg5 arg6 harg6 arg7 harg7 arg8 harg8 (base i) iotaS w1 w2 w3 w4 w5 w6 w7 w8 w9 w10 0#32 X a k).trans
    (by unfold tripR_k0_t6 trip_k0_t6; dsimp only; rfl)
theorem runs7 : ∀ w1 w2 w3 w4 w5 w6 w7 w8 w9, Runs i a (arg5.view.read (Elt F) X) 6 (st_k0_t7 (F := F) Variants.none c none i arg1 harg1 arg2 harg2 arg3 harg3 arg4 harg4 arg5 harg5 arg6 harg6 arg7 harg7 arg8 harg8 (base i) iotaS w1 w2 w3 w4 w5 w6 w7 w8 w9 X a) :=
  fun w1 w2 w3 w4 w5 w6 w7 w8 w9 => runs_of X k0_off7 k0_off7_inb rfl (fun _ _ => rfl) fun k => (st_k0_t7_succ (F := F) Variants.none c none i arg1 harg1 arg2 harg2 arg3 harg3 arg4 harg4 arg5 harg5 arg6 harg6 arg7 harg7 arg8 harg8 (base i) iotaS w1 w2 w3 w4 w5 w6 w7 w8 w9 X a k).trans
    (by unfold tripR_k0_t7 trip_k0_t7; dsimp only; rfl)
theorem runs8 : ∀ w1 w2 w3 w4 w5 w6 w7, Runs i a (arg5.view.read (Elt F) X) 7 (st_k0_t8 (F := F) Variants.none c none i arg1 harg1 arg2 harg2 arg3 harg3 arg4 harg4 arg5 harg5 arg6 harg6 arg7 harg7 arg8 harg8 (base i) iotaS w1 w2 w3 w4 w5 w6 w7 0#32 X a) :=
  fun w1 w2 w3 w4 w5 w6 w7 => runs_of X k0_off8 k0_off8_inb rfl (fun _ _ => rfl) fun k => (st_k0_t8_succ (F := F) Variants.none c none i arg1 harg1 arg2 harg2 arg3 harg3 arg4 harg4 arg5 harg5 arg6 harg6 arg7 harg7 arg8 harg8 (base i) iotaS w1 w2 w3 w4 w5 w6 w7 0#32 X a k).trans
    (by unfold tripR_k0_t8 trip_k0_t8; dsimp only; rfl)

end

/-- The loop's registers after its last trip, at sublane `b` and lane `l`. -/
theorem Runs.digest {i : grid0.Coords} {a : Regs Ideal} {Y : S4000x1024.Idx → EReal} {g : Fin 8} {st : ℕ → Regs Ideal}
    (h : Runs i a Y g st) {s : Fin 100000 → EReal} {t : ℕ} (ht : t < 25) (hi : (i 0).val = t) (b : Fin 8) (l : Fin 128)
    (ha : slot a (ix2 b l) = fun _ => (⊥, 0#32))
    (hY : ∀ (r : Fin 4000) (n : Fin 100000), n.val = 4000 * t + r.val → Y (ix2 r ⟨128 * g.val + l.val, by omega⟩) = s n) :
    Digest s (rowsOf t b.val) (slot (st T) (ix2 b l)) := by
  refine loop_digest ht st _ _ (h.zero ▸ ha) h.succ fun k u => ?_
  have hn := step_lt k u
  rw [rowAt_apply, idx_apply hi ht, hY _ (rowOf t b.val (U * k.val + u.val)) (by rw [rowOf_val ht b.isLt hn]; show _ = 4000 * t + (_ + _); omega)]
  rfl

end Cert.Lanes

end
-- ==== Proof.Point.lean ====
module

public import proofs.«01_k».proof.Proof.Trips
public import proofs.«01_k».proof.Proof.Gen.KernelIdeal.Frame
public import proofs.«01_k».proof.Proof.Gen.KernelIdeal.Points

/-! One grid point of the kernel: what it leaves in the running lists and in the normalised queries, from what it
finds there. -/

@[expose] public section

set_option maxRecDepth 100000
set_option maxHeartbeats 4000000

noncomputable section

namespace Cert.Lanes

open Idealize.ShloMosaic Idealize.ShloMosaic.TcCoe Idealize.ShloMosaic.Tactic Cert.KernelIdeal Cert.KernelIdeal.Gen
open Cert.Vec (Regs stackV stackI newV newI)

variable {F : FTy → Type} [FloatOps F]

/-- The columns of lane group `g`. -/
theorem rect_inb (g : Fin 8) (d : Fin 2) : (![0, 128 * g.val] : Fin 2 → ℕ) d + S8x128.size d ≤ S8x1024.size d := by
  have hg := g.isLt
  fin_cases d
  · show 0 + 8 ≤ 8
    omega
  · show 128 * g.val + 128 ≤ 1024
    omega

abbrev rect (g : Fin 8) : Rect S8x1024 := Rect.unit ![0, 128 * g.val] S8x128.size (rect_inb g)

/-- The registers that a loop starts from. -/
def fresh : Regs F :=
  let v : FVec F S8x128 .f32 := broadcast S8x128 (Scalar.ofBits .f32 0xFF800000#32)
  let z : IVec S8x128 32 := broadcast S8x128 0#32
  (v, v, v, v, v, z, z, z, z, z)

/-- `S` is what the loop of lane group `g` leaves in its registers, over the score table `V`. -/
def Lane (i : grid0.Coords) (V : S4000x1024.Idx → Elt F .f32) (g : Fin 8) (S : Regs F) : Prop := ∃ st, Runs i fresh V g st ∧ st T = S

theorem lane {i : grid0.Coords} {V Y : S4000x1024.Idx → Elt F .f32} {g : Fin 8} {st : ℕ → Regs F} (hX : Y = V) (h : Runs i fresh Y g st) :
    Lane i V g (st T) := hX ▸ ⟨st, h, rfl⟩

/-- The products of the rows of a block with the queries. -/
def dots (x : Vec F S4000x512 .f32) (z : Vec F S1024x512 .f32) : FVec F S4000x1024 .f32 :=
  shapeCast S4000x1024 (matmul dot_S4000x512_S1024x512_S4000x1024_1_1_0_0_n_n none x z (constant S4000x1024 .f32 0x00000000#32))
    shapeCasts_S4000x1024_S4000x1024

/-- The queries, each divided by its length. -/
def normal (z : Vec F S1024x512 .f32) : FVec F S1024x512 .f32 :=
  shapeCast S1024x512 (divf z (broadcastTo S1024x512 (sqrt (shapeCast S1024x1
    (multiReduction .add [1] S1024 (mulf z z) 0x00000000#32 reduces_S1024x512_S1024 (.inl rfl) rfl) shapeCasts_S1024_S1024x1))
    broadcasts_S1024x1_S1024x512)) shapeCasts_S1024x512_S1024x512

/-- Eight stores, one to the columns of each lane group, the last first, over earlier stores. -/
def lanes {e : EltTy} (P : Fin 8 → S8x128.Idx → Elt F e) (L : List (View.Piece (Elt F) S8x1024 e)) : List (View.Piece (Elt F) S8x1024 e) :=
  ⟨rect 7, P 7⟩ :: ⟨rect 6, P 6⟩ :: ⟨rect 5, P 5⟩ :: ⟨rect 4, P 4⟩ :: ⟨rect 3, P 3⟩ :: ⟨rect 2, P 2⟩ :: ⟨rect 1, P 1⟩ :: ⟨rect 0, P 0⟩ :: L

/-- What a point stores into the running lists, where it found `w` and `j` in them, over the score table `V`. -/
def Point (i : grid0.Coords) (V : S4000x1024.Idx → Elt F .f32) (w : Fin 8 → FVec F S8x128 .f32) (j : Fin 8 → IVec S8x128 32)
    (LV tv : List (View.Piece (Elt F) S8x1024 .f32)) (LI ti : List (View.Piece (Elt F) S8x1024 .i32)) : Prop :=
  ∃ S : Fin 8 → Regs F, (∀ g, Lane i V g (S g))
    ∧ LV = lanes (fun g => newV (stackV (S g) (w g)) (stackI (S g) (j g))) tv
    ∧ LI = lanes (fun g => newI (stackV (S g) (w g)) (stackI (S g) (j g))) ti

variable {i : grid0.Coords}

/-- The pieces of a point from those of its lane groups. -/
theorem assemble {V : S4000x1024.Idx → Elt F .f32} {LV tv : List (View.Piece (Elt F) S8x1024 .f32)} {LI ti : List (View.Piece (Elt F) S8x1024 .i32)}
    {w : Fin 8 → FVec F S8x128 .f32} {j : Fin 8 → IVec S8x128 32} (S0 S1 S2 S3 S4 S5 S6 S7 : Regs F) (W0 W1 W2 W3 W4 W5 W6 W7 : FVec F S8x128 .f32) (J0 J1 J2 J3 J4 J5 J6 J7 : IVec S8x128 32)
    (e1 : LV = (⟨rect 7, newV (stackV S7 W7) (stackI S7 J7)⟩ : View.Piece (Elt F) S8x1024 _) :: (⟨rect 6, newV (stackV S6 W6) (stackI S6 J6)⟩ : View.Piece (Elt F) S8x1024 _) :: (⟨rect 5, newV (stackV S5 W5) (stackI S5 J5)⟩ : View.Piece (Elt F) S8x1024 _) :: (⟨rect 4, newV (stackV S4 W4) (stackI S4 J4)⟩ : View.Piece (Elt F) S8x1024 _) :: (⟨rect 3, newV (stackV S3 W3) (stackI S3 J3)⟩ : View.Piece (Elt F) S8x1024 _) :: (⟨rect 2, newV (stackV S2 W2) (stackI S2 J2)⟩ : View.Piece (Elt F) S8x1024 _) :: (⟨rect 1, newV (stackV S1 W1) (stackI S1 J1)⟩ : View.Piece (Elt F) S8x1024 _) :: (⟨rect 0, newV (stackV S0 W0) (stackI S0 J0)⟩ : View.Piece (Elt F) S8x1024 _) :: tv)
    (e2 : LI = (⟨rect 7, newI (stackV S7 W7) (stackI S7 J7)⟩ : View.Piece (Elt F) S8x1024 _) :: (⟨rect 6, newI (stackV S6 W6) (stackI S6 J6)⟩ : View.Piece (Elt F) S8x1024 _) :: (⟨rect 5, newI (stackV S5 W5) (stackI S5 J5)⟩ : View.Piece (Elt F) S8x1024 _) :: (⟨rect 4, newI (stackV S4 W4) (stackI S4 J4)⟩ : View.Piece (Elt F) S8x1024 _) :: (⟨rect 3, newI (stackV S3 W3) (stackI S3 J3)⟩ : View.Piece (Elt F) S8x1024 _) :: (⟨rect 2, newI (stackV S2 W2) (stackI S2 J2)⟩ : View.Piece (Elt F) S8x1024 _) :: (⟨rect 1, newI (stackV S1 W1) (stackI S1 J1)⟩ : View.Piece (Elt F) S8x1024 _) :: (⟨rect 0, newI (stackV S0 W0) (stackI S0 J0)⟩ : View.Piece (Elt F) S8x1024 _) :: ti)
    (h0 : Lane i V 0 S0) (h1 : Lane i V 1 S1) (h2 : Lane i V 2 S2) (h3 : Lane i V 3 S3) (h4 : Lane i V 4 S4) (h5 : Lane i V 5 S5) (h6 : Lane i V 6 S6) (h7 : Lane i V 7 S7)
    (a0 : W0 = w 0) (a1 : W1 = w 1) (a2 : W2 = w 2) (a3 : W3 = w 3) (a4 : W4 = w 4) (a5 : W5 = w 5) (a6 : W6 = w 6) (a7 : W7 = w 7)
    (b0 : J0 = j 0) (b1 : J1 = j 1) (b2 : J2 = j 2) (b3 : J3 = j 3) (b4 : J4 = j 4) (b5 : J5 = j 5) (b6 : J6 = j 6) (b7 : J7 = j 7) : Point i V w j LV tv LI ti := by
  subst a0 a1 a2 a3 a4 a5 a6 a7 b0 b1 b2 b3 b4 b5 b6 b7
  refine ⟨![S0, S1, S2, S3, S4, S5, S6, S7], fun g => ?_, e1, e2⟩
  fin_cases g
  · exact h0
  · exact h1
  · exact h2
  · exact h3
  · exact h4
  · exact h5
  · exact h6
  · exact h7

variable {c : Dev nD} {arg1 : Memref sig .tc .vmem S1024x512 .f32} {harg1 : arg1.IsWhole} {arg2 : Memref sig .tc .vmem S4000x512 .f32} {harg2 : arg2.IsWhole}
  {arg3 : Memref sig .tc .vmem S8x1024 .f32} {harg3 : arg3.IsWhole} {arg4 : Memref sig .tc .vmem S8x1024 .i32} {harg4 : arg4.IsWhole}
  {arg5 : Memref sig .tc .vmem S4000x1024 .f32} {harg5 : arg5.IsWhole} {arg6 : Memref sig .tc .vmem S8x1024 .f32} {harg6 : arg6.IsWhole}
  {arg7 : Memref sig .tc .vmem S8x1024 .i32} {harg7 : arg7.IsWhole} {arg8 : Memref sig .tc .vmem S1024x512 .f32} {harg8 : arg8.IsWhole}
  {x0 : Vec F S1024x512 .f32} {x1 : Vec F S4000x512 .f32} {xs1 : Vec F S8x1024 .f32} {xs2 : Vec F S8x1024 .i32} {xs3 : Vec F S1024x512 .f32}

theorem zero2 : (![0, 0] : Fin 2 → ℕ) = fun _ => 0 := by
  funext d
  fin_cases d <;> rfl

theorem win1 (g : Fin 8) : View.readAt (Elt F) arg6.view (rect g).toLoadRect (harg6.unread xs1) = View.ld xs1 (rect g) := by
  rw [View.readAt_eq_ld, harg6.read_unread]

theorem win2 (g : Fin 8) : View.readAt (Elt F) arg7.view (rect g).toLoadRect (harg7.unread xs2) = View.ld xs2 (rect g) := by
  rw [View.readAt_eq_ld, harg7.read_unread]

/-- The columns of a lane group read after one store to all the columns, -/
theorem fresh_nil {e : EltTy} (v : View sig .tc .vmem S8x1024 e) (x : S8x1024.Idx → Elt F e) (g : Fin 8) :
    v.readCov [⟨Rect.unit ![0, 0] S8x1024.size inb_S8x1024_S8x1024_0_0, x⟩] (rect g).toLoadRect = View.ld x (rect g) := by
  rw [View.readCov_eq_canon', View.canon_unit_zero zero2]

/-- and after later stores to the columns of the groups before it. -/
theorem fresh_cons {e : EltTy} {v : View sig .tc .vmem S8x1024 e} {L : List (View.Piece (Elt F) S8x1024 e)} {w : S8x128.Idx → Elt F e}
    (n g : Fin 8) (h : n < g) (p : S8x128.Idx → Elt F e) (hL : v.readCov L (rect g).toLoadRect = w) :
    v.readCov (⟨rect n, p⟩ :: L) (rect g).toLoadRect = w := by
  have hd : Disjoint (rect n).set (rect g).set := Rect.unit_disjoint (inb := rect_inb n) (inb' := rect_inb g) 1 (.inl (by
    show 128 * n.val + 128 ≤ 128 * g.val
    have : n.val < g.val := h
    omega))
  rw [View.readCov_cons_of_disjoint v ⟨rect n, p⟩ L (rect g).toLoadRect hd, hL]

/-- A point between the first and the last. -/
theorem point_B (hc0 : ¬cond0_0 i) (hc1 : ¬cond0_1 i) :
    Point i (dots x1 xs3) (fun g => View.ld xs1 (rect g)) (fun g => View.ld xs2 (rect g))
      (kernelRun0_B c i arg1 harg1 arg2 harg2 arg3 harg3 arg4 harg4 arg5 harg5 arg6 harg6 arg7 harg7 arg8 harg8 hc0 hc1 x0 x1 xs1 xs2 xs3).2.2.1 []
      (kernelRun0_B c i arg1 harg1 arg2 harg2 arg3 harg3 arg4 harg4 arg5 harg5 arg6 harg6 arg7 harg7 arg8 harg8 hc0 hc1 x0 x1 xs1 xs2 xs3).2.2.2.1 [] := by
  let X := arg5.view.writes (Elt F) arg5.view.junk [⟨Rect.unit ![0, 0] S4000x1024.size inb_S4000x1024_S4000x1024_0_0,
    dots (View.readAt (Elt F) arg2.view (Rect.unit ![0, 0] S4000x512.size inb_S4000x512_S4000x512_0_0).toLoadRect (harg2.unread x1))
      (View.readAt (Elt F) arg8.view (Rect.unit ![0, 0] S1024x512.size inb_S1024x512_S1024x512_0_0).toLoadRect (harg8.unread xs3))⟩]
  have hX : arg5.view.read (Elt F) X = dots x1 xs3 := by
    rw [View.read_writes_junk_eq_canon, View.canon_unit_zero zero2, View.readAt_eq_ld, View.readAt_eq_ld, harg2.read_unread, harg8.read_unread,
      View.ld_unit_zero zero2, View.ld_unit_zero zero2]
  unfold kernelRun0_B
  dsimp only
  refine assemble _ _ _ _ _ _ _ _ _ _ _ _ _ _ _ _ _ _ _ _ _ _ _ _ rfl rfl
    (lane hX (runs1 _ _ _ _ _ _ _ _ _ _ _ _ _ _ _ _ _ _ X fresh))
    (lane hX (runs2 _ _ _ _ _ _ _ _ _ _ _ _ _ _ _ _ _ _ X fresh _ _ _ _ _ _ _ _ _ _ _ _))
    (lane hX (runs3 _ _ _ _ _ _ _ _ _ _ _ _ _ _ _ _ _ _ X fresh _ _ _ _ _ _ _ _ _ _ _))
    (lane hX (runs4 _ _ _ _ _ _ _ _ _ _ _ _ _ _ _ _ _ _ X fresh _ _ _ _ _ _ _ _ _ _))
    (lane hX (runs5 _ _ _ _ _ _ _ _ _ _ _ _ _ _ _ _ _ _ X fresh _ _ _ _ _ _ _ _ _ _))
    (lane hX (runs6 _ _ _ _ _ _ _ _ _ _ _ _ _ _ _ _ _ _ X fresh _ _ _ _ _ _ _ _ _ _))
    (lane hX (runs7 _ _ _ _ _ _ _ _ _ _ _ _ _ _ _ _ _ _ X fresh _ _ _ _ _ _ _ _ _))
    (lane hX (runs8 _ _ _ _ _ _ _ _ _ _ _ _ _ _ _ _ _ _ X fresh _ _ _ _ _ _ _))
    (win1 0) (win1 1) (win1 2) (win1 3) (win1 4) (win1 5) (win1 6) (win1 7)
    (win2 0) (win2 1) (win2 2) (win2 3) (win2 4) (win2 5) (win2 6) (win2 7)

/-- The last point. -/
theorem point_C (hc0 : ¬cond0_0 i) (hc1 : cond0_1 i) :
    Point i (dots x1 xs3) (fun g => View.ld xs1 (rect g)) (fun g => View.ld xs2 (rect g))
      (kernelRun0_C c i arg1 harg1 arg2 harg2 arg3 harg3 arg4 harg4 arg5 harg5 arg6 harg6 arg7 harg7 arg8 harg8 hc0 hc1 x0 x1 xs1 xs2 xs3).2.2.1 []
      (kernelRun0_C c i arg1 harg1 arg2 harg2 arg3 harg3 arg4 harg4 arg5 harg5 arg6 harg6 arg7 harg7 arg8 harg8 hc0 hc1 x0 x1 xs1 xs2 xs3).2.2.2.1 [] := by
  let X := arg5.view.writes (Elt F) arg5.view.junk [⟨Rect.unit ![0, 0] S4000x1024.size inb_S4000x1024_S4000x1024_0_0,
    dots (View.readAt (Elt F) arg2.view (Rect.unit ![0, 0] S4000x512.size inb_S4000x512_S4000x512_0_0).toLoadRect (harg2.unread x1))
      (View.readAt (Elt F) arg8.view (Rect.unit ![0, 0] S1024x512.size inb_S1024x512_S1024x512_0_0).toLoadRect (harg8.unread xs3))⟩]
  have hX : arg5.view.read (Elt F) X = dots x1 xs3 := by
    rw [View.read_writes_junk_eq_canon, View.canon_unit_zero zero2, View.readAt_eq_ld, View.readAt_eq_ld, harg2.read_unread, harg8.read_unread,
      View.ld_unit_zero zero2, View.ld_unit_zero zero2]
  unfold kernelRun0_C
  dsimp only
  refine assemble _ _ _ _ _ _ _ _ _ _ _ _ _ _ _ _ _ _ _ _ _ _ _ _ rfl rfl
    (lane hX (runs1 _ _ _ _ _ _ _ _ _ _ _ _ _ _ _ _ _ _ X fresh))
    (lane hX (runs2 _ _ _ _ _ _ _ _ _ _ _ _ _ _ _ _ _ _ X fresh _ _ _ _ _ _ _ _ _ _ _ _))
    (lane hX (runs3 _ _ _ _ _ _ _ _ _ _ _ _ _ _ _ _ _ _ X fresh _ _ _ _ _ _ _ _ _ _ _))
    (lane hX (runs4 _ _ _ _ _ _ _ _ _ _ _ _ _ _ _ _ _ _ X fresh _ _ _ _ _ _ _ _ _ _))
    (lane hX (runs5 _ _ _ _ _ _ _ _ _ _ _ _ _ _ _ _ _ _ X fresh _ _ _ _ _ _ _ _ _ _))
    (lane hX (runs6 _ _ _ _ _ _ _ _ _ _ _ _ _ _ _ _ _ _ X fresh _ _ _ _ _ _ _ _ _ _))
    (lane hX (runs7 _ _ _ _ _ _ _ _ _ _ _ _ _ _ _ _ _ _ X fresh _ _ _ _ _ _ _ _ _))
    (lane hX (runs8 _ _ _ _ _ _ _ _ _ _ _ _ _ _ _ _ _ _ X fresh _ _ _ _ _ _ _))
    (win1 0) (win1 1) (win1 2) (win1 3) (win1 4) (win1 5) (win1 6) (win1 7)
    (win2 0) (win2 1) (win2 2) (win2 3) (win2 4) (win2 5) (win2 6) (win2 7)

/-- The running scores before the first block. -/
def startV : Vec F S8x1024 .f32 := shapeCast S8x1024 (broadcast S8x1024 (Scalar.ofBits .f32 0xFF800000#32)) shapeCasts_S8x1024_S8x1024

/-- The running row numbers before the first block. -/
def startI : Vec F S8x1024 .i32 := shapeCast S8x1024 (broadcast S8x1024 0#32) shapeCasts_S8x1024_S8x1024

/-- The first point. -/
theorem point_A (hc0 : cond0_0 i) (hc1 : ¬cond0_1 i) :
    Point i (dots x1 (normal x0)) (fun g => View.ld (startV (F := F)) (rect g)) (fun g => View.ld (startI (F := F)) (rect g))
      (kernelRun0_A c i arg1 harg1 arg2 harg2 arg3 harg3 arg4 harg4 arg5 harg5 arg6 harg6 arg7 harg7 arg8 harg8 hc0 hc1 x0 x1).2.2.1 [⟨Rect.unit ![0, 0] S8x1024.size inb_S8x1024_S8x1024_0_0, startV⟩]
      (kernelRun0_A c i arg1 harg1 arg2 harg2 arg3 harg3 arg4 harg4 arg5 harg5 arg6 harg6 arg7 harg7 arg8 harg8 hc0 hc1 x0 x1).2.2.2.1 [⟨Rect.unit ![0, 0] S8x1024.size inb_S8x1024_S8x1024_0_0, startI (F := F)⟩] := by
  let X := arg5.view.writes (Elt F) arg5.view.junk [⟨Rect.unit ![0, 0] S4000x1024.size inb_S4000x1024_S4000x1024_0_0,
    dots (View.readAt (Elt F) arg2.view (Rect.unit ![0, 0] S4000x512.size inb_S4000x512_S4000x512_0_0).toLoadRect (harg2.unread x1))
      (arg8.view.readCov [⟨Rect.unit ![0, 0] S1024x512.size inb_S1024x512_S1024x512_0_0, normal (View.readAt (Elt F) arg1.view (Rect.unit ![0, 0] S1024x512.size inb_S1024x512_S1024x512_0_0).toLoadRect (harg1.unread x0))⟩] (Rect.unit ![0, 0] S1024x512.size inb_S1024x512_S1024x512_0_0).toLoadRect)⟩]
  have hX : arg5.view.read (Elt F) X = dots x1 (normal x0) := by
    rw [View.read_writes_junk_eq_canon, View.canon_unit_zero zero2, View.readCov_unit_zero _ zero2, View.readAt_eq_ld, View.readAt_eq_ld, harg1.read_unread,
      harg2.read_unread, View.ld_unit_zero zero2, View.ld_unit_zero zero2]
  unfold kernelRun0_A
  dsimp only
  refine assemble _ _ _ _ _ _ _ _ _ _ _ _ _ _ _ _ _ _ _ _ _ _ _ _ rfl rfl
    (lane hX (runs1 _ _ _ _ _ _ _ _ _ _ _ _ _ _ _ _ _ _ X fresh))
    (lane hX (runs2 _ _ _ _ _ _ _ _ _ _ _ _ _ _ _ _ _ _ X fresh _ _ _ _ _ _ _ _ _ _ _ _))
    (lane hX (runs3 _ _ _ _ _ _ _ _ _ _ _ _ _ _ _ _ _ _ X fresh _ _ _ _ _ _ _ _ _ _ _))
    (lane hX (runs4 _ _ _ _ _ _ _ _ _ _ _ _ _ _ _ _ _ _ X fresh _ _ _ _ _ _ _ _ _ _))
    (lane hX (runs5 _ _ _ _ _ _ _ _ _ _ _ _ _ _ _ _ _ _ X fresh _ _ _ _ _ _ _ _ _ _))
    (lane hX (runs6 _ _ _ _ _ _ _ _ _ _ _ _ _ _ _ _ _ _ X fresh _ _ _ _ _ _ _ _ _ _))
    (lane hX (runs7 _ _ _ _ _ _ _ _ _ _ _ _ _ _ _ _ _ _ X fresh _ _ _ _ _ _ _ _ _))
    (lane hX (runs8 _ _ _ _ _ _ _ _ _ _ _ _ _ _ _ _ _ _ X fresh _ _ _ _ _ _ _))
    (fresh_nil _ _ 0)
    (fresh_cons 0 1 (by decide) _ (fresh_nil _ _ 1))
    (fresh_cons 1 2 (by decide) _ (fresh_cons 0 2 (by decide) _ (fresh_nil _ _ 2)))
    (fresh_cons 2 3 (by decide) _ (fresh_cons 1 3 (by decide) _ (fresh_cons 0 3 (by decide) _ (fresh_nil _ _ 3))))
    (fresh_cons 3 4 (by decide) _ (fresh_cons 2 4 (by decide) _ (fresh_cons 1 4 (by decide) _ (fresh_cons 0 4 (by decide) _ (fresh_nil _ _ 4)))))
    (fresh_cons 4 5 (by decide) _ (fresh_cons 3 5 (by decide) _ (fresh_cons 2 5 (by decide) _ (fresh_cons 1 5 (by decide) _ (fresh_cons 0 5 (by decide) _ (fresh_nil _ _ 5))))))
    (fresh_cons 5 6 (by decide) _ (fresh_cons 4 6 (by decide) _ (fresh_cons 3 6 (by decide) _ (fresh_cons 2 6 (by decide) _ (fresh_cons 1 6 (by decide) _ (fresh_cons 0 6 (by decide) _ (fresh_nil _ _ 6)))))))
    (fresh_cons 6 7 (by decide) _ (fresh_cons 5 7 (by decide) _ (fresh_cons 4 7 (by decide) _ (fresh_cons 3 7 (by decide) _ (fresh_cons 2 7 (by decide) _ (fresh_cons 1 7 (by decide) _ (fresh_cons 0 7 (by decide) _ (fresh_nil _ _ 7))))))))
    (fresh_nil _ _ 0)
    (fresh_cons 0 1 (by decide) _ (fresh_nil _ _ 1))
    (fresh_cons 1 2 (by decide) _ (fresh_cons 0 2 (by decide) _ (fresh_nil _ _ 2)))
    (fresh_cons 2 3 (by decide) _ (fresh_cons 1 3 (by decide) _ (fresh_cons 0 3 (by decide) _ (fresh_nil _ _ 3))))
    (fresh_cons 3 4 (by decide) _ (fresh_cons 2 4 (by decide) _ (fresh_cons 1 4 (by decide) _ (fresh_cons 0 4 (by decide) _ (fresh_nil _ _ 4)))))
    (fresh_cons 4 5 (by decide) _ (fresh_cons 3 5 (by decide) _ (fresh_cons 2 5 (by decide) _ (fresh_cons 1 5 (by decide) _ (fresh_cons 0 5 (by decide) _ (fresh_nil _ _ 5))))))
    (fresh_cons 5 6 (by decide) _ (fresh_cons 4 6 (by decide) _ (fresh_cons 3 6 (by decide) _ (fresh_cons 2 6 (by decide) _ (fresh_cons 1 6 (by decide) _ (fresh_cons 0 6 (by decide) _ (fresh_nil _ _ 6)))))))
    (fresh_cons 6 7 (by decide) _ (fresh_cons 5 7 (by decide) _ (fresh_cons 4 7 (by decide) _ (fresh_cons 3 7 (by decide) _ (fresh_cons 2 7 (by decide) _ (fresh_cons 1 7 (by decide) _ (fresh_cons 0 7 (by decide) _ (fresh_nil _ _ 7))))))))

/-- The last point copies the running lists to the outputs. -/
theorem copy_C (hc0 : ¬cond0_0 i) (hc1 : cond0_1 i) :
    (kernelRun0_C c i arg1 harg1 arg2 harg2 arg3 harg3 arg4 harg4 arg5 harg5 arg6 harg6 arg7 harg7 arg8 harg8 hc0 hc1 x0 x1 xs1 xs2 xs3).1 = [⟨Rect.unit ![0, 0] S8x1024.size inb_S8x1024_S8x1024_0_0, arg6.view.readCov (kernelRun0_C c i arg1 harg1 arg2 harg2 arg3 harg3 arg4 harg4 arg5 harg5 arg6 harg6 arg7 harg7 arg8 harg8 hc0 hc1 x0 x1 xs1 xs2 xs3).2.2.1 (Rect.unit ![0, 0] S8x1024.size inb_S8x1024_S8x1024_0_0).toLoadRect⟩]
      ∧ (kernelRun0_C c i arg1 harg1 arg2 harg2 arg3 harg3 arg4 harg4 arg5 harg5 arg6 harg6 arg7 harg7 arg8 harg8 hc0 hc1 x0 x1 xs1 xs2 xs3).2.1 = [⟨Rect.unit ![0, 0] S8x1024.size inb_S8x1024_S8x1024_0_0, arg7.view.readCov (kernelRun0_C c i arg1 harg1 arg2 harg2 arg3 harg3 arg4 harg4 arg5 harg5 arg6 harg6 arg7 harg7 arg8 harg8 hc0 hc1 x0 x1 xs1 xs2 xs3).2.2.2.1 (Rect.unit ![0, 0] S8x1024.size inb_S8x1024_S8x1024_0_0).toLoadRect⟩] :=
  ⟨rfl, rfl⟩

/-- The first point stores the normalised queries. -/
theorem norm_A (hc0 : cond0_0 i) (hc1 : ¬cond0_1 i) : (kernelRun0_A c i arg1 harg1 arg2 harg2 arg3 harg3 arg4 harg4 arg5 harg5 arg6 harg6 arg7 harg7 arg8 harg8 hc0 hc1 x0 x1).2.2.2.2.1 = [⟨Rect.unit ![0, 0] S1024x512.size inb_S1024x512_S1024x512_0_0,
    normal (View.readAt (Elt F) arg1.view (Rect.unit ![0, 0] S1024x512.size inb_S1024x512_S1024x512_0_0).toLoadRect (harg1.unread x0))⟩] :=
  rfl

end Cert.Lanes

end
-- ==== Proof.Copy.lean ====
module

public import proofs.«01_k».proof.Proof.Point

/-! What the last point copies out. -/

@[expose] public section

set_option maxRecDepth 100000

noncomputable section

namespace Cert.Lanes

open Idealize.ShloMosaic Idealize.ShloMosaic.TcCoe Cert.KernelIdeal Cert.KernelIdeal.Gen

variable {F : FTy → Type} [FloatOps F] {i : grid0.Coords}
variable {c : Dev nD} {arg1 : Memref sig .tc .vmem S1024x512 .f32} {harg1 : arg1.IsWhole} {arg2 : Memref sig .tc .vmem S4000x512 .f32} {harg2 : arg2.IsWhole}
  {arg3 : Memref sig .tc .vmem S8x1024 .f32} {harg3 : arg3.IsWhole} {arg4 : Memref sig .tc .vmem S8x1024 .i32} {harg4 : arg4.IsWhole}
  {arg5 : Memref sig .tc .vmem S4000x1024 .f32} {harg5 : arg5.IsWhole} {arg6 : Memref sig .tc .vmem S8x1024 .f32} {harg6 : arg6.IsWhole}
  {arg7 : Memref sig .tc .vmem S8x1024 .i32} {harg7 : arg7.IsWhole} {arg8 : Memref sig .tc .vmem S1024x512 .f32} {harg8 : arg8.IsWhole}
  {x0 : Vec F S1024x512 .f32} {x1 : Vec F S4000x512 .f32} {xs1 : Vec F S8x1024 .f32} {xs2 : Vec F S8x1024 .i32} {xs3 : Vec F S1024x512 .f32}

/-- A store over the whole of what a read of the whole found leaves the same contents. -/
theorem copied {κ : Kind} {sp : Space} {e : EltTy} {v : View sig κ sp S8x1024 e} {O L : List (View.Piece (Elt F) S8x1024 e)}
    (h : O = [⟨Rect.unit ![0, 0] S8x1024.size inb_S8x1024_S8x1024_0_0, v.readCov L (Rect.unit ![0, 0] S8x1024.size inb_S8x1024_S8x1024_0_0).toLoadRect⟩]) :
    View.canon O = View.canon L := by
  rw [h, View.canon_unit_zero zero2, View.readCov_eq_canon']
  exact View.ld_unit_zero zero2 _ _

theorem copied_C1 (hc0 : ¬cond0_0 i) (hc1 : cond0_1 i) :
    View.canon (kernelRun0_C c i arg1 harg1 arg2 harg2 arg3 harg3 arg4 harg4 arg5 harg5 arg6 harg6 arg7 harg7 arg8 harg8 hc0 hc1 x0 x1 xs1 xs2 xs3).1 = View.canon (kernelRun0_C c i arg1 harg1 arg2 harg2 arg3 harg3 arg4 harg4 arg5 harg5 arg6 harg6 arg7 harg7 arg8 harg8 hc0 hc1 x0 x1 xs1 xs2 xs3).2.2.1 := by
  have h := (copy_C (c := c) (arg1 := arg1) (arg2 := arg2) (arg3 := arg3) (arg4 := arg4) (arg5 := arg5) (arg6 := arg6) (arg7 := arg7) (arg8 := arg8) (harg1 := harg1) (harg2 := harg2) (harg3 := harg3) (harg4 := harg4) (harg5 := harg5) (harg6 := harg6) (harg7 := harg7) (harg8 := harg8) (x0 := x0) (x1 := x1) (xs1 := xs1) (xs2 := xs2) (xs3 := xs3) hc0 hc1).1
  exact copied h

theorem copied_C2 (hc0 : ¬cond0_0 i) (hc1 : cond0_1 i) :
    View.canon (kernelRun0_C c i arg1 harg1 arg2 harg2 arg3 harg3 arg4 harg4 arg5 harg5 arg6 harg6 arg7 harg7 arg8 harg8 hc0 hc1 x0 x1 xs1 xs2 xs3).2.1 = View.canon (kernelRun0_C c i arg1 harg1 arg2 harg2 arg3 harg3 arg4 harg4 arg5 harg5 arg6 harg6 arg7 harg7 arg8 harg8 hc0 hc1 x0 x1 xs1 xs2 xs3).2.2.2.1 := by
  have h := (copy_C (c := c) (arg1 := arg1) (arg2 := arg2) (arg3 := arg3) (arg4 := arg4) (arg5 := arg5) (arg6 := arg6) (arg7 := arg7) (arg8 := arg8) (harg1 := harg1) (harg2 := harg2) (harg3 := harg3) (harg4 := harg4) (harg5 := harg5) (harg6 := harg6) (harg7 := harg7) (harg8 := harg8) (x0 := x0) (x1 := x1) (xs1 := xs1) (xs2 := xs2) (xs3 := xs3) hc0 hc1).2
  exact copied h

end Cert.Lanes

end
-- ==== Proof.Reference.lean ====
module

public import proofs.«01_k».proof.Proof.TopFive
public import proofs.«01_k».proof.On_untied
public import proofs.«01_k».proof.Proof.Gen.ReferenceIdeal.Run
public import Idealize.ShloMosaic.Lib.Pointwise
public import Idealize.ShloMosaic.Lib.Pipeline.Value

/-! What the reference's results and the mask are: the scores, their stable descending order, and the places where an
index is claimed. -/

@[expose] public section

noncomputable section

namespace Cert.Scores

open Idealize.ShloMosaic Cert.TopFive

abbrev S1024x512 : Shape := ⟨2, ![1024, 512]⟩
abbrev S100000x512 : Shape := ⟨2, ![100000, 512]⟩
abbrev S1024x100000 : Shape := ⟨2, ![1024, 100000]⟩

/-- The length of a query. -/
def len (Z : FVec Ideal S1024x512 .f32) (q : Fin 1024) : EReal := Ideal.sqrt (∑ d : Fin 512, Z (ix2 q d) * Z (ix2 q d))

/-- The score of row `i` of the table for the query `q`. -/
def score (Z : FVec Ideal S1024x512 .f32) (Y : FVec Ideal S100000x512 .f32) (q : Fin 1024) (i : Fin 100000) : EReal :=
  ∑ d : Fin 512, Ideal.div (Z (ix2 q d)) (len Z q) * Y (ix2 i d)

/-- The stable descending order of scores: the row at each place. -/
def order {N : ℕ} (s : Fin N → EReal) : Fin N → Fin N := sortedFrom fun k k' => decide (s k' < s k)

theorem order_injective {N : ℕ} (s : Fin N → EReal) : Function.Injective (order s) := sortedFrom_injective _

theorem order_le {N : ℕ} (s : Fin N → EReal) (i j : Fin N) (h : i < j) : s (order s j) ≤ s (order s i) := by
  have := sortedFrom_noInversion (fun k k' => decide (s k' < s k)) (fun k k' => decide (s k' < s k))
    (fun a b h => by simp only [decide_eq_true_eq, decide_eq_false_iff_not, not_lt] at h ⊢; exact h.le) (fun _ _ h => h)
    (fun a b c h h' => by simp only [decide_eq_false_iff_not, not_lt] at h h' ⊢; exact h.trans h') i j h
  exact not_lt.1 (of_decide_eq_false this)

private theorem gt_beq (a b : EReal) : (FloatOps.cmpfTotal (F := Ideal) (φ := .f32) .gt a b == 1#1) = decide (b < a) := by
  show (BitVec.ofBool (decide (b < a)) == 1#1) = _
  by_cases h : b < a <;> simp [h]

/-- The first `K` of each row's scores in the stable descending order, and their rows. -/
theorem topK_apply {K : ℕ} (hK : K ≤ 100000) (x : FVec Ideal S1024x100000 .f32)
    (h : S1024x100000.Slices (fun _ => 0) ⟨2, ![1024, K]⟩) (q : Fin 1024) (j : Fin K) :
    (Host.topK (⟨2, ![1024, K]⟩ : Shape) 1 (FloatOps.cmpfTotal .gt) x h).1 (ix2 q j)
        = x (ix2 q (order (fun i => x (ix2 q i)) (j.castLE hK))) ∧
      (Host.topK (⟨2, ![1024, K]⟩ : Shape) 1 (FloatOps.cmpfTotal .gt) x h).2 (ix2 q j)
        = BitVec.ofNat 32 (order (fun i => x (ix2 q i)) (j.castLE hK)).val := by
  have e : ∀ k : Fin 100000, ∀ r : Fin 100000, Shape.Idx.along (ix2 q r : S1024x100000.Idx) 1 k = ix2 q k := fun k r => by
    funext a; match a with | ⟨0, _⟩ => rfl | ⟨1, _⟩ => rfl
  have ek : ∀ a : Fin S1024x100000.rank, ((ix2 q (j.castLE hK) : S1024x100000.Idx) a).val
      = 0 + ((ix2 q j : (⟨2, ![1024, K]⟩ : Shape).Idx) (a.cast h.1.symm)).val := fun a => by
    match a with
    | ⟨0, _⟩ => exact (Nat.zero_add _).symm
    | ⟨1, _⟩ => exact (Nat.zero_add _).symm
  have eo : sortedFrom (fun k k' : Fin 100000 =>
      FloatOps.cmpfTotal (F := Ideal) (φ := .f32) .gt (x (Shape.Idx.along (ix2 q (j.castLE hK) : S1024x100000.Idx) 1 k))
        (x (Shape.Idx.along (ix2 q (j.castLE hK) : S1024x100000.Idx) 1 k')) == 1#1) = order fun i => x (ix2 q i) := by
    unfold order
    congr 1
    funext k k'
    rw [e, e]
    exact gt_beq _ _
  have et := (congrArg (Shape.Idx.along (ix2 q (j.castLE hK) : S1024x100000.Idx) 1) (congrFun eo (j.castLE hK))).trans (e _ _)
  unfold Host.topK
  dsimp only
  rw [extractStridedSlice_apply _ _ h _ _ ek, extractStridedSlice_apply _ _ h _ _ ek]
  unfold Host.sort2
  rw [dif_pos (by decide : 1 < S1024x100000.rank)]
  generalize order (fun i => x (ix2 q i)) (j.castLE hK) = r at et ⊢
  refine ⟨congrArg x et, ?_⟩
  have e3 : iotaInDim S1024x100000 32 1 (ix2 q r) = BitVec.ofNat 32 r.val := rfl
  rw [← e3, ← et]
  rfl

section reference

open Cert.ReferenceIdeal Cert.ReferenceIdeal.Facts₀

variable [Cert.ReferenceIdeal.Facts₀]

/-- The reference's table of scores. -/
theorem table_apply (Z : FVec Ideal S1024x512 .f32) (Y : FVec Ideal S100000x512 .f32) (q : Fin 1024) (i : Fin 100000) :
    Host.dotGeneral dot_S1024x512_S512x100000_S1024x100000_1_0_0_1_n_n none (Host.divf Z (broadcastInDim S1024x512 ![0, 1] bcast_S1024x1_S1024x512_0_1 (Host.sqrt (broadcastInDim S1024x1 ![0] bcast_S1024_S1024x1_0 (Host.reduceAdd (mulf Z Z) (constant S_ .f32 0x00000000#32) reducesTo_S1024x512_S1024_d1 h_S_))))) (transpose S512x100000 [1, 0] Y transposes_S100000x512_S512x100000_1_0) (ix2 q i)
      = score Z Y q i := by
  pointwise [score, len]

end reference

section mask

open Cert.On_untied Cert.On_untied.Facts

instance maskFacts : Cert.On_untied.Facts where
  reducesTo_S1024x512_S1024_d1 := by decide
  h_S_ := by decide
  bcast_S1024_S1024x1_0 := by decide
  bcast_S1024x1_S1024x512_0_1 := by decide
  transposes_S100000x512_S512x100000_1_0 := by decide
  sliceFits_S1024x100000_S1024x6 := by decide
  slices_S1024x6_S1024x5_0_0 := by decide
  slices_S1024x6_S1024x5_0_1 := by decide
  bcast_S_S1024x1 := by decide
  slices_S1024x5_S1024x4_0_0 := by decide
  concatenates_S1024x1_S1024x4_S1024x5_d1 := by decide
  bcast_S_S1024x5 := by decide
  dot_S1024x512_S512x100000_S1024x100000_1_0_0_1_n_n_wf := by decide

/-- The mask's table of scores. -/
theorem mask_table_apply (Z : FVec Ideal S1024x512 .f32) (Y : FVec Ideal S100000x512 .f32) (q : Fin 1024) (i : Fin 100000) :
    Host.dotGeneral dot_S1024x512_S512x100000_S1024x100000_1_0_0_1_n_n none (Host.divf Z (broadcastInDim S1024x512 ![0, 1] bcast_S1024x1_S1024x512_0_1 (fn_norm (F := Ideal) Z))) (transpose S512x100000 [1, 0] Y transposes_S100000x512_S512x100000_1_0) (ix2 q i)
      = score Z Y q i := by
  pointwise [score, len, fn_norm]

/-- Where the mask claims an index, the score there lies strictly between its neighbours in the descending order. -/
theorem mask_apply (Z : FVec Ideal S1024x512 .f32) (Y : FVec Ideal S100000x512 .f32) (q : Fin 1024) (j : Fin 5)
    (h : (fn (F := Ideal) Z Y).2 (ix2 q j) = 1#1) :
    score Z Y q (order (score Z Y q) ⟨j.val + 1, by omega⟩) < score Z Y q (order (score Z Y q) ⟨j.val, by omega⟩) ∧
      ∀ _ : 0 < j.val, score Z Y q (order (score Z Y q) ⟨j.val, by omega⟩) < score Z Y q (order (score Z Y q) ⟨j.val - 1, by omega⟩) := by
  unfold fn at h
  dsimp only at h
  have hx := fun i => mask_table_apply Z Y q i
  generalize Host.dotGeneral dot_S1024x512_S512x100000_S1024x100000_1_0_0_1_n_n none (Host.divf Z (broadcastInDim S1024x512 ![0, 1] bcast_S1024x1_S1024x512_0_1 (fn_norm (F := Ideal) Z))) (transpose S512x100000 [1, 0] Y transposes_S100000x512_S512x100000_1_0) = x at h hx
  have ht := fun k => (topK_apply (K := 6) (by omega) x sliceFits_S1024x100000_S1024x6 q k).1
  simp only [hx] at ht
  generalize (Host.topK S1024x6 1 (FloatOps.cmpfTotal .gt) x sliceFits_S1024x100000_S1024x6).1 = v at h ht
  pointwise at h
  have both : ∀ a b : BitVec 1, IntOp.andi a b = 1#1 → a = 1#1 ∧ b = 1#1 := by decide
  have of : ∀ c : Prop, ∀ _ : Decidable c, BitVec.ofBool (decide c) = 1#1 → c := fun c _ hc => by
    by_contra hn
    rw [decide_eq_false hn] at hc
    exact absurd hc (by decide)
  obtain ⟨h1, h2⟩ := both _ _ h
  refine ⟨?_, fun hj => ?_⟩
  · have h1 := of _ _ h1
    rw [ht, ht] at h1
    simp only [Nat.add_comm 1] at h1
    exact h1
  · rw [dif_neg (by omega)] at h2
    have h2 := of _ _ h2
    rw [ht, ht] at h2
    simp only [Nat.add_sub_cancel' (Nat.succ_le_of_lt hj)] at h2
    exact h2

end mask

end Cert.Scores
-- ==== Proof.Fold.lean ====
module

public import Idealize.ShloMosaic.Lib.Pipeline.ValueKit.Tiles
public import proofs.«01_k».proof.Proof.Point
public import proofs.«01_k».proof.Proof.Reference

/-! The running lists over the grid: after each point they stand for all the rows that the points so far have read. -/

@[expose] public section

set_option maxRecDepth 100000
set_option maxHeartbeats 4000000

noncomputable section

namespace Cert.Lanes

open Idealize.ShloMosaic Idealize.ShloMosaic.TcCoe Cert.KernelIdeal Cert.KernelIdeal.Gen Cert.TopFive
open Cert.Vec (Regs stackV stackI newV newI slot Col merge_col)
open Cert.Scores (score len)

/-! ## Reading the stores of a point -/

section stores

variable {F : FTy → Type} [FloatOps F] {e : EltTy}

theorem ld_hit (g : Fin 8) (p : S8x128.Idx → Elt F e) (L : List (View.Piece (Elt F) S8x1024 e)) :
    View.ld (View.canon (⟨rect g, p⟩ :: L)) (rect g) = p :=
  funext fun x => View.canon_cons_emb (rect g) p L x

theorem ld_skip (n g : Fin 8) (h : n ≠ g) (p : S8x128.Idx → Elt F e) (L : List (View.Piece (Elt F) S8x1024 e)) :
    View.ld (View.canon (⟨rect n, p⟩ :: L)) (rect g) = View.ld (View.canon L) (rect g) := by
  have hd : Disjoint (rect n).set (rect g).set := Rect.unit_disjoint (inb := rect_inb n) (inb' := rect_inb g) 1 (by
    show 128 * n.val + 128 ≤ 128 * g.val ∨ 128 * g.val + 128 ≤ 128 * n.val
    have : n.val ≠ g.val := fun hv => h (Fin.ext hv)
    omega)
  exact funext fun x => View.canon_cons_of_not_mem ⟨rect n, p⟩ L (Finset.disjoint_right.mp hd ((rect g).toLoadRect.idx_mem x))

/-- The columns of each lane group hold what was stored to them. -/
theorem ld_lanes (P : Fin 8 → S8x128.Idx → Elt F e) (L : List (View.Piece (Elt F) S8x1024 e)) :
    ∀ g : Fin 8, View.ld (View.canon (lanes P L)) (rect g) = P g := by
  intro g
  unfold lanes
  match g with
  | 0 => rw [ld_skip 7 0 (by decide), ld_skip 6 0 (by decide), ld_skip 5 0 (by decide), ld_skip 4 0 (by decide), ld_skip 3 0 (by decide), ld_skip 2 0 (by decide), ld_skip 1 0 (by decide), ld_hit]
  | 1 => rw [ld_skip 7 1 (by decide), ld_skip 6 1 (by decide), ld_skip 5 1 (by decide), ld_skip 4 1 (by decide), ld_skip 3 1 (by decide), ld_skip 2 1 (by decide), ld_hit]
  | 2 => rw [ld_skip 7 2 (by decide), ld_skip 6 2 (by decide), ld_skip 5 2 (by decide), ld_skip 4 2 (by decide), ld_skip 3 2 (by decide), ld_hit]
  | 3 => rw [ld_skip 7 3 (by decide), ld_skip 6 3 (by decide), ld_skip 5 3 (by decide), ld_skip 4 3 (by decide), ld_hit]
  | 4 => rw [ld_skip 7 4 (by decide), ld_skip 6 4 (by decide), ld_skip 5 4 (by decide), ld_hit]
  | 5 => rw [ld_skip 7 5 (by decide), ld_skip 6 5 (by decide), ld_hit]
  | 6 => rw [ld_skip 7 6 (by decide), ld_hit]
  | 7 => rw [ld_hit]

/-- Column `l` of lane group `g`. -/
abbrev col (g : Fin 8) (l : Fin 128) : Fin 1024 := ⟨128 * g.val + l.val, by omega⟩

theorem ld_rect (X : S8x1024.Idx → Elt F e) (g j : Fin 8) (l : Fin 128) : View.ld X (rect g) (ix2 j l) = X (ix2 j (col g l)) := by
  refine View.ld_unit_apply_of X _ _ _ _ _ fun d => ?_
  fin_cases d
  · exact (Nat.zero_add _).symm
  · rfl

end stores

/-! ## The values of one point -/

theorem ofBits_negInf : Ideal.ofBits .f32 0xFF800000#32 = (⊥ : EReal) := by
  simp [Ideal.ofBits, Ideal.ieee]

theorem slot_fresh (x : S8x128.Idx) : slot fresh x = fun _ => (⊥, 0#32) := by
  have h : ((Ideal.ofBits .f32 0xFF800000#32, 0#32) : Entry) = (⊥, 0#32) := by rw [ofBits_negInf]
  funext j
  fin_cases j <;> exact h

theorem dots_apply (x : Vec Ideal S4000x512 .f32) (z : Vec Ideal S1024x512 .f32) (r : Fin 4000) (q : Fin 1024) :
    dots x z (ix2 r q) = ∑ d : Fin 512, x (ix2 r d) * z (ix2 q d) := by
  pointwise [dots]

theorem normal_apply (z : Vec Ideal S1024x512 .f32) (q : Fin 1024) (d : Fin 512) :
    normal z (ix2 q d) = Ideal.div (z (ix2 q d)) (len z q) := by
  pointwise [normal, len]

/-- The lists that a point starts from, before any row. -/
theorem start_col (s : Fin 100000 → EReal) (g : Fin 8) (l : Fin 128) :
    Col s ∅ (View.ld (startV (F := Ideal)) (rect g)) (View.ld (startI (F := Ideal)) (rect g)) l := by
  have h : ∀ j : Fin 8, ((View.ld (startV (F := Ideal)) (rect g) (ix2 j l), View.ld (startI (F := Ideal)) (rect g) (ix2 j l)) : Entry) = (⊥, 0#32) := fun j =>
    Prod.ext ofBits_negInf rfl
  refine ⟨?_, fun n _ => (h n).trans (h 4).symm⟩
  simp only [h]
  exact Digest.empty _

variable {i : grid0.Coords} {V : S4000x1024.Idx → EReal} {w : Fin 8 → FVec Ideal S8x128 .f32} {j : Fin 8 → IVec S8x128 32}
  {LV tv : List (View.Piece (Elt Ideal) S8x1024 .f32)} {LI ti : List (View.Piece (Elt Ideal) S8x1024 .i32)}

/-- One point adds the 4000 rows of its block to the lists, and leaves each list in descending order. -/
theorem Point.col (hp : Point i V w j LV tv LI ti) {t : ℕ} (ht : t < 25) (hi : (i 0).val = t) {s : Fin 1024 → Fin 100000 → EReal}
    (hV : ∀ (r : Fin 4000) (q : Fin 1024) (n : Fin 100000), n.val = 4000 * t + r.val → V (ix2 r q) = s q n)
    {R : Set (Fin 100000)} (g : Fin 8) (l : Fin 128) (hR : Col (s (col g l)) R (w g) (j g) l) :
    Col (s (col g l)) ({n | 4000 * t ≤ n.val ∧ n.val < 4000 * (t + 1)} ∪ R) (View.ld (View.canon LV) (rect g)) (View.ld (View.canon LI) (rect g)) l ∧
      ∀ a b : Fin 8, a ≤ b → View.ld (View.canon LV) (rect g) (ix2 b l) ≤ View.ld (View.canon LV) (rect g) (ix2 a l) := by
  obtain ⟨S, hS, rfl, rfl⟩ := hp
  rw [ld_lanes, ld_lanes, ← rows_union ht]
  obtain ⟨st, hst, hT⟩ := hS g
  refine merge_col (fun b => ?_) hR
  rw [← hT]
  exact hst.digest ht hi b l (slot_fresh _) fun r n hn => hV r _ n hn

end Cert.Lanes

end
-- ==== Proof.Grid.lean ====
module

public import Idealize.ShloMosaic.Lib.Pipeline.Value
public import proofs.«01_k».proof.Proof.Copy
public import proofs.«01_k».proof.Proof.Fold
public import proofs.«01_k».proof.Proof.Gen.KernelIdeal.Frame

/-! The lists after the whole grid, by induction on the point. -/

@[expose] public section

set_option maxRecDepth 100000
set_option maxHeartbeats 1000000

noncomputable section

namespace Cert.Lanes

open Idealize.ShloMosaic Idealize.ShloMosaic.TcCoe Cert.KernelIdeal Cert.KernelIdeal.Gen Cert.TopFive
open Cert.Vec (Col)
open Cert.Scores (score)

variable (m : (ℓ : Loc nD τ sig) → Buf (Elt Ideal) ℓ) (c : Dev nD)

/-- The queries. -/
abbrev Z : Vec Ideal S1024x512 .f32 := m ((c : Thread nD τ).loc main_arg0)
/-- The rows that are searched. -/
abbrev Y : Vec Ideal S100000x512 .f32 := m ((c : Thread nD τ).loc main_arg1)

theorem coord : ∀ t : Fin grid0.N, (grid0.coords t 0).val = t.val := by decide

theorem index0 : ∀ t : Fin grid0.N, win0_0.index t 0 = 0 ∧ win0_0.index t 1 = 0 := by decide
theorem index1 : ∀ t : Fin grid0.N, win0_1.index t 0 = t.val ∧ win0_1.index t 1 = 0 := by decide

/-- Every point sees all of the queries. -/
theorem block0 (t : Fin cfg0.N) : (iblk m c 0 t : Vec Ideal S1024x512 .f32) = Z m c := by
  funext j
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = (j 0).val; rw [(index0 t).1]; omega
  | ⟨1, _⟩ => show win0_0.index t 1 * 512 + 1 * (j 1).val = (j 1).val; rw [(index0 t).2]; omega

/-- Point `t` sees rows `4000 t` to `4000 t + 3999`. -/
theorem block1 (t : Fin cfg0.N) (r : Fin 4000) (d : Fin 512) (n : Fin 100000) (hn : n.val = 4000 * t.val + r.val) :
    (iblk m c 1 t : Vec Ideal S4000x512 .f32) (ix2 r d) = Y m c (ix2 n d) := by
  unfold iblk
  rw [View.read_apply]
  show V m c main_arg1 _ = m (c.tc.loc main_arg1) _
  unfold V
  congr 1
  funext a
  apply Fin.ext
  match a with
  | ⟨0, _⟩ => show win0_1.index t 0 * 4000 + 1 * r.val = n.val; rw [(index1 t).1]; omega
  | ⟨1, _⟩ => show win0_1.index t 1 * 512 + 1 * d.val = d.val; rw [(index1 t).2]; omega

/-- The products of point `t` are the scores of its rows. -/
theorem dots_score (t : Fin cfg0.N) (r : Fin 4000) (q : Fin 1024) (n : Fin 100000) (hn : n.val = 4000 * t.val + r.val) :
    dots (iblk m c 1 t : Vec Ideal S4000x512 .f32) (normal (Z m c)) (ix2 r q) = score (Z m c) (Y m c) q n := by
  rw [dots_apply]
  refine Finset.sum_congr rfl fun d _ => ?_
  rw [normal_apply, block1 m c t r d n hn, mul_comm]

/-- The rows of the points before `t`. -/
abbrev before (t : ℕ) : Set (Fin 100000) := {n | n.val < 4000 * t}

/-- Lists and scaled queries as they stand when `t` points are done. -/
structure Held (t : ℕ) (rv : Vec Ideal S8x1024 .f32) (ri : Vec Ideal S8x1024 .i32) (zn : Vec Ideal S1024x512 .f32) : Prop where
  col (g : Fin 8) (l : Fin 128) : Col (score (Z m c) (Y m c) (col g l)) (before t) (View.ld rv (rect g)) (View.ld ri (rect g)) l
  desc (g : Fin 8) (l : Fin 128) (a b : Fin 8) (h : a ≤ b) : View.ld rv (rect g) (ix2 b l) ≤ View.ld rv (rect g) (ix2 a l)
  zn : zn = normal (Z m c)

/-- A point takes the lists from `t` points done to `t + 1`. -/
theorem Held.step (t : Fin cfg0.N) {w : Fin 8 → FVec Ideal S8x128 .f32} {j : Fin 8 → IVec S8x128 32}
    {LV tv : List (View.Piece (Elt Ideal) S8x1024 .f32)} {LI ti : List (View.Piece (Elt Ideal) S8x1024 .i32)}
    (hp : Point (grid0.coords t) (dots (iblk m c 1 t : Vec Ideal S4000x512 .f32) (normal (Z m c))) w j LV tv LI ti)
    (hR : ∀ (g : Fin 8) (l : Fin 128), Col (score (Z m c) (Y m c) (Lanes.col g l)) (before t.val) (w g) (j g) l) :
    Held m c (t.val + 1) (View.canon LV) (View.canon LI) (normal (Z m c)) := by
  have ht : t.val < 25 := lt_of_lt_of_eq t.isLt N_0
  have h := fun g l => hp.col ht (coord t) (dots_score m c t) g l (hR g l)
  have hu : {n : Fin 100000 | 4000 * t.val ≤ n.val ∧ n.val < 4000 * (t.val + 1)} ∪ before t.val = before (t.val + 1) := by
    ext n
    simp only [Set.mem_union, Set.mem_setOf_eq]
    omega
  rw [hu] at h
  exact ⟨fun g l => (h g l).1, fun g l => (h g l).2, rfl⟩

/-- What point `t` leaves in the running lists and the scaled queries is right for `t + 1` points done. -/
abbrev HeldAt (t : ℕ) (ht : t < cfg0.N) : Prop := Held m c (t + 1) (outsAt0 m c t ht).2.2.1 (outsAt0 m c t ht).2.2.2.1 (outsAt0 m c t ht).2.2.2.2

theorem held_A (t : Fin cfg0.N) (h0 : t.val % 25 = 0) (h1 : ¬t.val % 25 = 24) : HeldAt m c t.val t.isLt := by
  have ht : t.val = 0 := by have := lt_of_lt_of_eq t.isLt N_0; omega
  have hN : normal (iblk m c 0 t : Vec Ideal S1024x512 .f32) = normal (Z m c) := congrArg normal (block0 m c t)
  unfold HeldAt
  rw [outsAt0_A m c t h0 h1]
  dsimp only
  unfold sout0_A_1 sout0_A_2 sout0_A_3
  rw [View.read_writes_junk_eq_canon, View.read_writes_junk_eq_canon, View.read_writes_junk_eq_canon, norm_A, View.canon_unit_zero zero2,
    View.readAt_eq_ld, Memref.IsWhole.read_unread, View.ld_unit_zero (S := S1024x512) zero2, hN]
  refine Held.step m c t (by rw [← hN]; exact point_A _ _) fun g l => ?_
  have he : before t.val = ∅ := by
    ext n
    simp only [Set.mem_setOf_eq, Set.mem_empty_iff_false, iff_false]
    omega
  rw [he]
  exact start_col _ g l

theorem held_B (t : Fin cfg0.N) (h0 : ¬t.val % 25 = 0) (h1 : ¬t.val % 25 = 24) {rv : Vec Ideal S8x1024 .f32} {ri : Vec Ideal S8x1024 .i32} {zn : Vec Ideal S1024x512 .f32}
    (hv : (outsAt0 m c (t.val - 1) (Nat.lt_of_le_of_lt (Nat.sub_le _ _) t.isLt)).2.2 = (rv, ri, zn)) (h : Held m c t.val rv ri zn) : HeldAt m c t.val t.isLt := by
  obtain ⟨hcol, -, rfl⟩ := h
  unfold HeldAt
  rw [outsAt0_B m c t h0 h1]
  dsimp only
  unfold sout0_B_1 sout0_B_2 sout0_B_3
  rw [View.read_writes_junk_eq_canon, View.read_writes_junk_eq_canon]
  rw [hv]
  dsimp only
  exact Held.step m c t (point_B _ _) hcol

theorem held_C (t : Fin cfg0.N) (h0 : ¬t.val % 25 = 0) (h1 : t.val % 25 = 24) {rv : Vec Ideal S8x1024 .f32} {ri : Vec Ideal S8x1024 .i32} {zn : Vec Ideal S1024x512 .f32}
    (hv : (outsAt0 m c (t.val - 1) (Nat.lt_of_le_of_lt (Nat.sub_le _ _) t.isLt)).2.2 = (rv, ri, zn)) (h : Held m c t.val rv ri zn) : HeldAt m c t.val t.isLt := by
  obtain ⟨hcol, -, rfl⟩ := h
  unfold HeldAt
  rw [outsAt0_C m c t h0 h1]
  dsimp only
  unfold sout0_C_1 sout0_C_2 sout0_C_3
  rw [View.read_writes_junk_eq_canon, View.read_writes_junk_eq_canon]
  rw [hv]
  dsimp only
  exact Held.step m c t (point_C _ _) hcol

/-- Every point leaves the lists right. -/
theorem held : ∀ (t : ℕ) (ht : t < cfg0.N), HeldAt m c t ht
  | 0, ht => held_A m c ⟨0, ht⟩ rfl (by dsimp only; omega)
  | t + 1, ht => by
    have hN : cfg0.N = 25 := N_0
    have h0 : ¬(⟨t + 1, ht⟩ : Fin cfg0.N).val % 25 = 0 := by dsimp only; omega
    have hp := held t (Nat.lt_of_succ_lt ht)
    by_cases h1 : (⟨t + 1, ht⟩ : Fin cfg0.N).val % 25 = 24
    · exact held_C m c ⟨t + 1, ht⟩ h0 h1 rfl hp
    · exact held_B m c ⟨t + 1, ht⟩ h0 h1 rfl hp

/-- The last point copies the running lists to the two outputs. -/
theorem outs_C (t : Fin cfg0.N) (h0 : ¬t.val % 25 = 0) (h1 : t.val % 25 = 24) :
    (outsAt0 m c t.val t.isLt).1 = (outsAt0 m c t.val t.isLt).2.2.1 ∧ (outsAt0 m c t.val t.isLt).2.1 = (outsAt0 m c t.val t.isLt).2.2.2.1 := by
  rw [outsAt0_C m c t h0 h1]
  dsimp only
  unfold sout0_C_1 sout0_C_2 out0_C_2 out0_C_3
  rw [View.read_writes_junk_eq_canon, View.read_writes_junk_eq_canon, View.read_writes_junk_eq_canon, View.read_writes_junk_eq_canon]
  exact ⟨copied_C1 _ _, copied_C2 _ _⟩

end Cert.Lanes

end
-- ==== Proof.Result.lean ====
module

public import Idealize.ShloMosaic.Lib.Pipeline.Value
public import Idealize.ShloMosaic.Lib.StableHlo.Run
public import proofs.«01_k».proof.Proof.Grid

/-! The kernel's two result arrays, and what the host operations after it make of them. -/

@[expose] public section

set_option maxRecDepth 100000
set_option maxHeartbeats 400000

noncomputable section

namespace Cert.Lanes

open Idealize.ShloMosaic Idealize.ShloMosaic.TcCoe Idealize.SL.Sem Cert.KernelIdeal Cert.KernelIdeal.Gen Cert.TopFive
open Idealize.ShloMosaic.Pipeline (Dat)
open Cert.Scores (score)

variable (m : (ℓ : Loc nD τ sig) → Buf (Elt Ideal) ℓ) (ρ : Dev nD → PrngReg) (c : Dev nD)

/-- The last point. -/
abbrev last : Fin cfg0.N := ⟨24, by rw [show cfg0.N = 25 from N_0]; decide⟩

/-- The lists of scores, and of rows, after the last point. -/
def scores : Vec Ideal S8x1024 .f32 := (outsAt0 m c last.val last.isLt).1
def rows : Vec Ideal S8x1024 .i32 := (outsAt0 m c last.val last.isLt).2.1

theorem index2 : ∀ (t : Fin grid0.N) (a : Fin 2), win0_2.index t a = 0 := by decide
theorem index3 : ∀ (t : Fin grid0.N) (a : Fin 2), win0_3.index t a = 0 := by decide

theorem eq_last (t : Fin cfg0.N) (h : t.val % 25 = 24) : t = last := by
  have hN : cfg0.N = 25 := N_0
  have := t.isLt
  exact Fin.ext (by dsimp only; omega)

theorem flushed2 (t : Fin cfg0.N) (hf : (cfg0.win 2).flush t = true) :
    (dats m 0 c).flushed 2 t = ((cfg0.win 2).blk t).view.read (Elt Ideal) (scores m c) := by
  obtain rfl := eq_last t ((flush0_2 t).mp hf)
  show (cfg0.win 2).cut (grid0.coords last) ((dats m 0 c).after 2 last) = _
  rw [after0_2]
  have hz : (fun a => win0_2.index last a * main_v0_0.ty.shape.size a) = fun _ => 0 := funext fun a => by rw [index2]; exact Nat.zero_mul _
  exact (Memref.read_access_unit_zero (Elt Ideal) main_v0_0 hz (fun a => by rw [congrFun hz a]; simp) (scores m c)).symm

theorem flushed3 (t : Fin cfg0.N) (hf : (cfg0.win 3).flush t = true) :
    (dats m 0 c).flushed 3 t = ((cfg0.win 3).blk t).view.read (Elt Ideal) (rows m c) := by
  obtain rfl := eq_last t ((flush0_3 t).mp hf)
  show (cfg0.win 3).cut (grid0.coords last) ((dats m 0 c).after 3 last) = _
  rw [after0_3]
  have hz : (fun a => win0_3.index last a * main_v0_1.ty.shape.size a) = fun _ => 0 := funext fun a => by rw [index3]; exact Nat.zero_mul _
  exact (Memref.read_access_unit_zero (Elt Ideal) main_v0_1 hz (fun a => by rw [congrFun hz a]; simp) (rows m c)).symm

/-- The first result array ends as the list of scores. -/
theorem final2 : (dats m 0 c).arrAt 2 cfg0.N = scores m c :=
  (dats m 0 c).arrAt_eq_of_cover 2 (scores m c) (flushed2 m c) fun i =>
    ⟨last, (flush0_2 last).mpr rfl, by
      show i ∈ ((View.whole main_v0_0).slice (win0_2.rect last)).set
      rw [View.set_slice_whole, Rect.mem_set_unit]
      intro a
      have h0 : (i 0 : Nat) < 8 := (i 0).isLt
      have h1 : (i 1 : Nat) < 1024 := (i 1).isLt
      match a with
      | ⟨0, _⟩ => show win0_2.index last 0 * 8 ≤ (i 0 : Nat) ∧ (i 0 : Nat) < win0_2.index last 0 * 8 + 8
                  rw [index2]; omega
      | ⟨1, _⟩ => show win0_2.index last 1 * 1024 ≤ (i 1 : Nat) ∧ (i 1 : Nat) < win0_2.index last 1 * 1024 + 1024
                  rw [index2]; omega⟩

/-- The second result array ends as the list of rows. -/
theorem final3 : (dats m 0 c).arrAt 3 cfg0.N = rows m c :=
  (dats m 0 c).arrAt_eq_of_cover 3 (rows m c) (flushed3 m c) fun i =>
    ⟨last, (flush0_3 last).mpr rfl, by
      show i ∈ ((View.whole main_v0_1).slice (win0_3.rect last)).set
      rw [View.set_slice_whole, Rect.mem_set_unit]
      intro a
      have h0 : (i 0 : Nat) < 8 := (i 0).isLt
      have h1 : (i 1 : Nat) < 1024 := (i 1).isLt
      match a with
      | ⟨0, _⟩ => show win0_3.index last 0 * 8 ≤ (i 0 : Nat) ∧ (i 0 : Nat) < win0_3.index last 0 * 8 + 8
                  rw [index3]; omega
      | ⟨1, _⟩ => show win0_3.index last 1 * 1024 ≤ (i 1 : Nat) ∧ (i 1 : Nat) < win0_3.index last 1 * 1024 + 1024
                  rw [index3]; omega⟩

/-- The five places of a query in the final lists. -/
def top (q : Fin 1024) (j : Fin 5) : Entry := (scores m c (ix2 (j.castLE (by decide) : Fin 8) q), rows m c (ix2 (j.castLE (by decide) : Fin 8) q))

theorem held_top {rv : Vec Ideal S8x1024 .f32} {ri : Vec Ideal S8x1024 .i32} {zn : Vec Ideal S1024x512 .f32} {t : ℕ} (ht : t = 25) (hh : Held m c t rv ri zn) (q : Fin 1024) :
    Digest (score (Z m c) (Y m c) q) Set.univ (fun j : Fin 5 => (rv (ix2 (j.castLE (by decide) : Fin 8) q), ri (ix2 (j.castLE (by decide) : Fin 8) q)))
      ∧ ∀ j k : Fin 5, j ≤ k → rv (ix2 (k.castLE (by decide) : Fin 8) q) ≤ rv (ix2 (j.castLE (by decide) : Fin 8) q) := by
  obtain ⟨g, l, rfl⟩ : ∃ (g : Fin 8) (l : Fin 128), q = Lanes.col g l :=
    ⟨⟨q.val / 128, by omega⟩, ⟨q.val % 128, Nat.mod_lt _ (by decide)⟩, Fin.ext (Nat.div_add_mod q.val 128).symm⟩
  have hr : before t = Set.univ := by
    subst ht
    ext n
    have := n.isLt
    simp only [Set.mem_setOf_eq, Set.mem_univ, iff_true]
    omega
  have hd := (hh.col g l).digest
  rw [hr] at hd
  have ht : (fun j : Fin 5 => ((View.ld rv (rect g) (ix2 (j.castLE (by omega) : Fin 8) l), View.ld ri (rect g) (ix2 (j.castLE (by omega) : Fin 8) l)) : Entry))
      = fun j : Fin 5 => (rv (ix2 (j.castLE (by decide) : Fin 8) (Lanes.col g l)), ri (ix2 (j.castLE (by decide) : Fin 8) (Lanes.col g l))) :=
    funext fun j => Prod.ext (ld_rect (F := Ideal) rv g _ l) (ld_rect (F := Ideal) ri g _ l)
  rw [ht] at hd
  refine ⟨hd, fun j k h => ?_⟩
  have := hh.desc g l (j.castLE (by decide)) (k.castLE (by decide)) h
  rw [ld_rect (F := Ideal) rv, ld_rect (F := Ideal) rv] at this
  exact this

theorem scores_eq : (outsAt0 m c last.val last.isLt).2.2.1 = scores m c := (outs_C m c last (by decide) (by decide)).1.symm
theorem rows_eq : (outsAt0 m c last.val last.isLt).2.2.2.1 = rows m c := (outs_C m c last (by decide) (by decide)).2.symm

attribute [irreducible] scores rows

/-- The final lists stand for all the rows, greatest score first. -/
theorem top_digest (q : Fin 1024) : Digest (score (Z m c) (Y m c) q) Set.univ (top m c q) ∧ ∀ j k : Fin 5, j ≤ k → (top m c q k).1 ≤ (top m c q j).1 := by
  have hh := held m c last.val last.isLt
  unfold HeldAt at hh
  rw [scores_eq, rows_eq] at hh
  exact held_top m c rfl hh q

/-- Slicing and transposing a list of eight places leaves five places for each query. -/
theorem tail_apply {α : Type} (x : S8x1024.Idx → α) (q : Fin 1024) (j : Fin 5) :
    transpose S1024x5 [1, 0] (extractStridedSlice S5x1024 ![0, 0] x slices_S8x1024_S5x1024_0_0) transposes_S5x1024_S1024x5_1_0 (ix2 q j)
      = x (ix2 (j.castLE (by decide) : Fin 8) q) := by
  refine congrArg x (funext fun a => Fin.ext ?_)
  fin_cases a
  · exact Nat.zero_add _
  · exact Nat.zero_add _

/-- The host operations after the kernel, on any contents. -/
theorem tail2 (W : Valuation τ sig (Elt Ideal)) : StableHlo.after hostOps1 W (Proc.devRef .tc main_v2)
    = transpose S1024x5 [1, 0] (extractStridedSlice S5x1024 ![0, 0] (W (Proc.devRef .tc main_v0_0) : Vec Ideal S8x1024 .f32) slices_S8x1024_S5x1024_0_0) transposes_S5x1024_S1024x5_1_0 := by
  unfold hostOps1
  after_results

theorem tail4 (W : Valuation τ sig (Elt Ideal)) : StableHlo.after hostOps1 W (Proc.devRef .tc main_v4)
    = transpose S1024x5 [1, 0] (extractStridedSlice S5x1024 ![0, 0] (W (Proc.devRef .tc main_v0_1) : Vec Ideal S8x1024 .i32) slices_S8x1024_S5x1024_0_0) transposes_S5x1024_S1024x5_1_0 := by
  unfold hostOps1
  after_results

/-- The two results of the program: every query's five scores and rows. -/
theorem run_kernel : θ_run defs (onTc (τ := τ) (main (F := Ideal))) ⟨m, fun _ => 0, ρ⟩ fun r => ∀ c : Dev nD,
      ((∀ (q : Fin 1024) (j : Fin 5), (r.2.mem ((c.tc : Thread nD τ).loc main_v2) : Vec Ideal S1024x5 .f32) (ix2 q j) = (top m c q j).1)
      ∧ ∀ (q : Fin 1024) (j : Fin 5), (r.2.mem ((c.tc : Thread nD τ).loc main_v4) : Vec Ideal S1024x5 .i32) (ix2 q j) = (top m c q j).2)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (θ_run_and (run_main m ρ) (unchanged m ρ))
  refine ⟨?_, h.2 c⟩
  have h2 := (h.1 c).2 main_v2 (by decide)
  have h4 := (h.1 c).2 main_v4 (by decide)
  unfold Pipeline.afterTail₀ at h2 h4
  have w2 : Pipeline.withArrays (τ := τ) (cfgs 0).spec c (V0 m c) (fun w => (dats m 0 c).arrAt w (cfgs 0).N) (Proc.devRef .tc main_v0_0) = scores m c :=
    (Pipeline.withArrays_arr (τ := τ) (cfgs 0).spec winFacts0.arr_inj c (V0 m c) (fun w => (dats m 0 c).arrAt w (cfgs 0).N) 2).trans (final2 m c)
  have w3 : Pipeline.withArrays (τ := τ) (cfgs 0).spec c (V0 m c) (fun w => (dats m 0 c).arrAt w (cfgs 0).N) (Proc.devRef .tc main_v0_1) = rows m c :=
    (Pipeline.withArrays_arr (τ := τ) (cfgs 0).spec winFacts0.arr_inj c (V0 m c) (fun w => (dats m 0 c).arrAt w (cfgs 0).N) 3).trans (final3 m c)
  constructor
  · intro q j
    refine (congrFun (h2.trans (tail2 _)) (ix2 q j)).trans ((tail_apply _ q j).trans ?_)
    exact congrFun w2 _
  · intro q j
    refine (congrFun (h4.trans (tail4 _)) (ix2 q j)).trans ((tail_apply _ q j).trans ?_)
    exact congrFun w3 _

end Cert.Lanes

end
-- ==== Proof.Equal.lean ====
module

public import Idealize.ShloMosaic.Lib.Quiescent
public import proofs.«01_k».proof.Proof.Result

/-! Both programs' results as the first five of the stable descending order of each query's scores. -/

@[expose] public section

set_option maxRecDepth 100000
set_option maxHeartbeats 400000

noncomputable section

namespace Cert.Scores

open Idealize.ShloMosaic Idealize.ShloMosaic.TcCoe Idealize.SL.Sem

variable (Z : FVec Ideal S1024x512 .f32) (Y : FVec Ideal S100000x512 .f32)

/-- The row at place `j` of the order of a query's scores. -/
def place (q : Fin 1024) (j : Fin 5) : Fin 100000 := order (score Z Y q) ⟨j.val, by omega⟩

/-- The scores and rows of the first five places. -/
def first : FVec Ideal ⟨2, ![1024, 5]⟩ .f32 := fun i => score Z Y (i 0) (place Z Y (i 0) (i 1))
def firstRow : IVec ⟨2, ![1024, 5]⟩ 32 := fun i => BitVec.ofNat 32 (place Z Y (i 0) (i 1)).val

variable {Z Y}

theorem topK_score {x : FVec Ideal S1024x100000 .f32} (hx : ∀ q i, x (ix2 q i) = score Z Y q i) (h : S1024x100000.Slices (fun _ => 0) ⟨2, ![1024, 5]⟩) :
    (Host.topK (⟨2, ![1024, 5]⟩ : Shape) 1 (FloatOps.cmpfTotal .gt) x h).1 = first Z Y
      ∧ (Host.topK (⟨2, ![1024, 5]⟩ : Shape) 1 (FloatOps.cmpfTotal .gt) x h).2 = firstRow Z Y := by
  have he : ∀ q, (fun i => x (ix2 q i)) = score Z Y q := fun q => funext (hx q)
  have ht := fun q j => topK_apply (K := 5) (by omega) x h q j
  simp only [he, hx] at ht
  refine ⟨funext fun i => ?_, funext fun i => ?_⟩
  · obtain ⟨q, j, rfl⟩ : ∃ q j, i = ix2 q j := ⟨i 0, i 1, eq_ix2 i⟩
    exact (ht q j).1
  · obtain ⟨q, j, rfl⟩ : ∃ q j, i = ix2 q j := ⟨i 0, i 1, eq_ix2 i⟩
    exact (ht q j).2

section reference

open Cert.ReferenceIdeal

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_values) = first (m ((c.tc : Thread nD τ).loc main_arg0)) (m ((c.tc : Thread nD τ).loc main_arg1))
      ∧ r.2.mem ((c.tc : Thread nD τ).loc main_indices) = firstRow (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (topK_score (table_apply _ _) _).1, (h c).2.1.trans (topK_score (table_apply _ _) _).2, (h c).2.2⟩)
    (Cert.ReferenceIdeal.Value.run m ρ)

end reference

section kernel

open Cert.KernelIdeal

theorem run_lists (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i : (⟨2, ![1024, 5]⟩ : Shape).Idx, (Cert.On_untied.fn (F := Ideal) (m ((c.tc : Thread nD τ).loc main_arg0)) (m ((c.tc : Thread nD τ).loc main_arg1))).1 i = 1#1 →
        r.2.mem ((c.tc : Thread nD τ).loc main_v2) i = first (m ((c.tc : Thread nD τ).loc main_arg0)) (m ((c.tc : Thread nD τ).loc main_arg1)) i)
      ∧ (∀ i : (⟨2, ![1024, 5]⟩ : Shape).Idx, (Cert.On_untied.fn (F := Ideal) (m ((c.tc : Thread nD τ).loc main_arg0)) (m ((c.tc : Thread nD τ).loc main_arg1))).2 i = 1#1 →
        r.2.mem ((c.tc : Thread nD τ).loc main_v4) i = firstRow (m ((c.tc : Thread nD τ).loc main_arg0)) (m ((c.tc : Thread nD τ).loc main_arg1)) i)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, (h c).2⟩) (Cert.Lanes.run_kernel m ρ)
  · intro i _
    obtain ⟨q, j, rfl⟩ : ∃ q j, i = ix2 q j := ⟨i 0, i 1, eq_ix2 i⟩
    obtain ⟨hd, ha⟩ := Cert.Lanes.top_digest m c q
    exact ((h c).1.1 q j).trans (Cert.TopFive.score_eq (by decide) (by decide) hd ha (order_injective _) (order_le _) j)
  · intro i hi
    obtain ⟨q, j, rfl⟩ : ∃ q j, i = ix2 q j := ⟨i 0, i 1, eq_ix2 i⟩
    obtain ⟨hd, ha⟩ := Cert.Lanes.top_digest m c q
    obtain ⟨hn, hp⟩ := mask_apply _ _ q j hi
    exact ((h c).1.2 q j).trans (Cert.TopFive.row_eq (by decide) (by decide) hd ha (order_injective _) (order_le _) j hn hp)

end kernel

end Cert.Scores

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- At the reals the kernel ends with the reference's scores, and with its rows where the mask claims them. -/
theorem algebraic : algebraic_KernelIdeal_ReferenceIdeal_on_untied (hKernelIdeal := Cert.KernelIdeal.Gen.facts) (hReferenceIdeal := Cert.ReferenceIdeal.Gen.facts)
    (hOn_untied := Cert.Scores.maskFacts) := by
  intro m g m' g' _ hm
  refine ⟨fun c => Cert.Scores.first (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Scores.firstRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.Scores.run_lists m g, ?_⟩
  refine (θ_run Cert.ReferenceIdeal.defs _ _).mono (fun r h c => ?_) (Cert.Scores.run_reference m' g')
  obtain ⟨h0, h1, h2⟩ := h c
  rw [(hm c).1, (hm c).2] at h0 h1
  exact ⟨fun i _ => congrFun h0 i, fun i _ => congrFun h1 i, h2⟩

theorem reference_frame : quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run m ρ)

theorem claim : Cert.Claim :=
  ⟨Cert.Kernel.Gen.facts, Cert.KernelIdeal.Gen.facts, Cert.ReferenceIdeal.Gen.facts, Cert.Scores.maskFacts, fun m ρ _ => Cert.Kernel.Gen.frame m ρ,
    fun m ρ _ => Cert.KernelIdeal.Gen.frame m ρ, reference_frame, trivial, algebraic⟩

end Cert.Proof

end
